-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_cube [hPre_in_cube : Cert.Pre_in_cube.Facts] (m : (ℓ : Loc Cert.KernelIdeal.nD Cert.KernelIdeal.τ Cert.KernelIdeal.sig) → Buf (Elt Ideal) ℓ) : Prop :=
  ∀ c : Dev Cert.KernelIdeal.nD,
    (Cert.Pre_in_cube.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_cube [hPre_in_cube : Cert.Pre_in_cube.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_cube.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_cube [hKernelIdeal : Cert.KernelIdeal.Facts] [hPre_in_cube : Cert.Pre_in_cube.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_cube m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_cube [hReferenceIdeal : Cert.ReferenceIdeal.Facts] [hPre_in_cube : Cert.Pre_in_cube.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_cube m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_cube [hKernelIdeal : Cert.KernelIdeal.Facts] [hReferenceIdeal : Cert.ReferenceIdeal.Facts] [hPre_in_cube : Cert.Pre_in_cube.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_cube m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v284) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_cube : Cert.Pre_in_cube.Facts),
    quiescent_Kernel (hKernel := hKernel)
    ∧ quiescent_KernelIdeal (hKernelIdeal := hKernelIdeal)
    ∧ quiescent_KernelIdeal_pre_in_cube (hKernelIdeal := hKernelIdeal) (hPre_in_cube := hPre_in_cube)
    ∧ quiescent_ReferenceIdeal (hReferenceIdeal := hReferenceIdeal)
    ∧ quiescent_ReferenceIdeal_pre_in_cube (hReferenceIdeal := hReferenceIdeal) (hPre_in_cube := hPre_in_cube)
    ∧ preserves_Kernel_KernelIdeal
    ∧ algebraic_KernelIdeal_ReferenceIdeal_pre_in_cube (hKernelIdeal := hKernelIdeal) (hReferenceIdeal := hReferenceIdeal) (hPre_in_cube := hPre_in_cube)
-- ==== Pre_in_cube.lean ====
abbrev S2x128x128x128x4 : Shape := ⟨5, ![2, 128, 128, 128, 4]⟩
abbrev S2x128x128x128x3 : Shape := ⟨5, ![2, 128, 128, 128, 3]⟩
abbrev S2x2x2x2x4 : Shape := ⟨5, ![2, 2, 2, 2, 4]⟩
abbrev S_ : Shape := ⟨0, ![]⟩

class Facts : Prop where
  slices_S2x128x128x128x4_S2x2x2x2x4_0_0_0_0_0 : S2x128x128x128x4.Slices ![0, 0, 0, 0, 0] S2x2x2x2x4
  bcast_S_S2x128x128x128x3 : S_.BroadcastsInDim S2x128x128x128x3 (![] : Fin 0 → Fin S2x128x128x128x3.rank)
  reducesTo_S2x128x128x128x3_S_d0_1_2_3_4 : S2x128x128x128x3.ReducesTo [0, 1, 2, 3, 4] S_
  h_S_ : 0 < S_.numel
  bcast_S_S2x2x2x2x4 : S_.BroadcastsInDim S2x2x2x2x4 (![] : Fin 0 → Fin S2x2x2x2x4.rank)
  reducesTo_S2x2x2x2x4_S_d0_1_2_3_4 : S2x2x2x2x4.ReducesTo [0, 1, 2, 3, 4] S_

variable [Facts]

def fn {F : FTy → Type} [FloatOps F] (main_arg0 : FVec F S2x128x128x128x4 .f32) (main_arg1 : FVec F S2x128x128x128x3 .f32) : IVec S_ 1 :=
  let main_v0 : FVec F S2x2x2x2x4 .f32 := (extractStridedSlice S2x2x2x2x4 ![0, 0, 0, 0, 0] · slices_S2x128x128x128x4_S2x2x2x2x4_0_0_0_0_0) main_arg0
  let main_cst : FVec F S_ .f32 := constant S_ .f32 0x00000000#32
  let main_v1 : FVec F S2x128x128x128x3 .f32 := broadcastInDim S2x128x128x128x3 ![] bcast_S_S2x128x128x128x3 main_cst
  let main_v2 : IVec S2x128x128x128x3 1 := cmpf .oge main_arg1 main_v1
  let main_cst_0 : FVec F S_ .f32 := constant S_ .f32 0x3F800000#32
  let main_v3 : FVec F S2x128x128x128x3 .f32 := broadcastInDim S2x128x128x128x3 ![] bcast_S_S2x128x128x128x3 main_cst_0
  let main_v4 : IVec S2x128x128x128x3 1 := cmpf .olt main_arg1 main_v3
  let main_v5 : IVec S2x128x128x128x3 1 := andi main_v2 main_v4
  let main_c : IVec S_ 1 := constantI S_ 1 1#1
  let main_v6 : IVec S_ 1 := (fun x v => Host.reduce IntOp.andi x v reducesTo_S2x128x128x128x3_S_d0_1_2_3_4 h_S_) main_v5 main_c
  let main_v7 : FVec F S2x2x2x2x4 .f32 := Host.absf main_v0
  let main_cst_1 : FVec F S_ .f32 := constant S_ .f32 0x7F800000#32
  let main_v8 : FVec F S2x2x2x2x4 .f32 := broadcastInDim S2x2x2x2x4 ![] bcast_S_S2x2x2x2x4 main_cst_1
  let main_v9 : IVec S2x2x2x2x4 1 := cmpf .olt main_v7 main_v8
  let main_c_2 : IVec S_ 1 := constantI S_ 1 1#1
  let main_v10 : IVec S_ 1 := (fun x v => Host.reduce IntOp.andi x v reducesTo_S2x2x2x2x4_S_d0_1_2_3_4 h_S_) main_v9 main_c_2
  let main_v11 : IVec S_ 1 := andi main_v6 main_v10
  main_v11
-- ==== Kernel.lean ====
abbrev S2x128x128x128x4 : Shape := ⟨5, ![2, 128, 128, 128, 4]⟩
abbrev S2x128x128x128x3 : Shape := ⟨5, ![2, 128, 128, 128, 3]⟩
abbrev S2x2x2x2x4 : Shape := ⟨5, ![2, 2, 2, 2, 4]⟩
abbrev S2x1x1x1x4 : Shape := ⟨5, ![2, 1, 1, 1, 4]⟩
abbrev S2x4 : Shape := ⟨2, ![2, 4]⟩
abbrev S2x1x4 : Shape := ⟨3, ![2, 1, 4]⟩
abbrev S2x8x4 : Shape := ⟨3, ![2, 8, 4]⟩
abbrev S2x128x3x128x128 : Shape := ⟨5, ![2, 128, 3, 128, 128]⟩
abbrev S256x3x128x128 : Shape := ⟨4, ![256, 3, 128, 128]⟩
abbrev S131072x128 : Shape := ⟨2, ![131072, 128]⟩
abbrev S32x3x128x128 : Shape := ⟨4, ![32, 3, 128, 128]⟩
abbrev S1x8x4 : Shape := ⟨3, ![1, 8, 4]⟩
abbrev S16384x128 : Shape := ⟨2, ![16384, 128]⟩
abbrev S8x4 : Shape := ⟨2, ![8, 4]⟩
abbrev S1x1x128x128 : Shape := ⟨4, ![1, 1, 128, 128]⟩
abbrev S128x128 : Shape := ⟨2, ![128, 128]⟩
abbrev S1x1 : Shape := ⟨2, ![1, 1]⟩
abbrev S2x128x128x4x128 : Shape := ⟨5, ![2, 128, 128, 4, 128]⟩

abbrev nBuf : Space → Nat
  | .hbm => 52
  | .vmem => 6
  | .smem => 0
  | _ => 0

abbrev bufTy : (tb : Table) → Fin (tcTables nBuf tb) → BufTy
  | .hbm, ⟨0, _⟩ => ⟨S2x128x128x128x4, .f32⟩
  | .hbm, ⟨1, _⟩ => ⟨S2x128x128x128x3, .f32⟩
  | .hbm, ⟨2, _⟩ => ⟨S2x2x2x2x4, .f32⟩
  | .hbm, ⟨3, _⟩ => ⟨S2x1x1x1x4, .f32⟩
  | .hbm, ⟨4, _⟩ => ⟨S2x4, .f32⟩
  | .hbm, ⟨5, _⟩ => ⟨S2x1x1x1x4, .f32⟩
  | .hbm, ⟨6, _⟩ => ⟨S2x4, .f32⟩
  | .hbm, ⟨7, _⟩ => ⟨S2x1x1x1x4, .f32⟩
  | .hbm, ⟨8, _⟩ => ⟨S2x4, .f32⟩
  | .hbm, ⟨9, _⟩ => ⟨S2x1x1x1x4, .f32⟩
  | .hbm, ⟨10, _⟩ => ⟨S2x4, .f32⟩
  | .hbm, ⟨11, _⟩ => ⟨S2x1x1x1x4, .f32⟩
  | .hbm, ⟨12, _⟩ => ⟨S2x4, .f32⟩
  | .hbm, ⟨13, _⟩ => ⟨S2x1x1x1x4, .f32⟩
  | .hbm, ⟨14, _⟩ => ⟨S2x4, .f32⟩
  | .hbm, ⟨15, _⟩ => ⟨S2x1x1x1x4, .f32⟩
  | .hbm, ⟨16, _⟩ => ⟨S2x4, .f32⟩
  | .hbm, ⟨17, _⟩ => ⟨S2x1x1x1x4, .f32⟩
  | .hbm, ⟨18, _⟩ => ⟨S2x4, .f32⟩
  | .hbm, ⟨19, _⟩ => ⟨S2x4, .f32⟩
  | .hbm, ⟨20, _⟩ => ⟨S2x4, .f32⟩
  | .hbm, ⟨21, _⟩ => ⟨S2x4, .f32⟩
  | .hbm, ⟨22, _⟩ => ⟨S2x4, .f32⟩
  | .hbm, ⟨23, _⟩ => ⟨S2x4, .f32⟩
  | .hbm, ⟨24, _⟩ => ⟨S2x4, .f32⟩
  | .hbm, ⟨25, _⟩ => ⟨S2x4, .f32⟩
  | .hbm, ⟨26, _⟩ => ⟨S2x4, .f32⟩
  | .hbm, ⟨27, _⟩ => ⟨S2x4, .f32⟩
  | .hbm, ⟨28, _⟩ => ⟨S2x4, .f32⟩
  | .hbm, ⟨29, _⟩ => ⟨S2x4, .f32⟩
  | .hbm, ⟨30, _⟩ => ⟨S2x4, .f32⟩
  | .hbm, ⟨31, _⟩ => ⟨S2x4, .f32⟩
  | .hbm, ⟨32, _⟩ => ⟨S2x4, .f32⟩
  | .hbm, ⟨33, _⟩ => ⟨S2x4, .f32⟩
  | .hbm, ⟨34, _⟩ => ⟨S2x4, .f32⟩
  | .hbm, ⟨35, _⟩ => ⟨S2x4, .f32⟩
  | .hbm, ⟨36, _⟩ => ⟨S2x4, .f32⟩
  | .hbm, ⟨37, _⟩ => ⟨S2x4, .f32⟩
  | .hbm, ⟨38, _⟩ => ⟨S2x1x4, .f32⟩
  | .hbm, ⟨39, _⟩ => ⟨S2x1x4, .f32⟩
  | .hbm, ⟨40, _⟩ => ⟨S2x1x4, .f32⟩
  | .hbm, ⟨41, _⟩ => ⟨S2x1x4, .f32⟩
  | .hbm, ⟨42, _⟩ => ⟨S2x1x4, .f32⟩
  | .hbm, ⟨43, _⟩ => ⟨S2x1x4, .f32⟩
  | .hbm, ⟨44, _⟩ => ⟨S2x1x4, .f32⟩
  | .hbm, ⟨45, _⟩ => ⟨S2x1x4, .f32⟩
  | .hbm, ⟨46, _⟩ => ⟨S2x8x4, .f32⟩
  | .hbm, ⟨47, _⟩ => ⟨S2x128x3x128x128, .f32⟩
  | .hbm, ⟨48, _⟩ => ⟨S256x3x128x128, .f32⟩
  | .hbm, ⟨49, _⟩ => ⟨S131072x128, .f32⟩
  | .hbm, ⟨50, _⟩ => ⟨S2x128x128x4x128, .f32⟩
  | .hbm, ⟨51, _⟩ => ⟨S2x128x128x128x4, .f32⟩
  | .local _ .vmem, ⟨0, _⟩ => ⟨S32x3x128x128, .f32⟩
  | .local _ .vmem, ⟨1, _⟩ => ⟨S32x3x128x128, .f32⟩
  | .local _ .vmem, ⟨2, _⟩ => ⟨S1x8x4, .f32⟩
  | .local _ .vmem, ⟨3, _⟩ => ⟨S1x8x4, .f32⟩
  | .local _ .vmem, ⟨4, _⟩ => ⟨S16384x128, .f32⟩
  | .local _ .vmem, ⟨5, _⟩ => ⟨S16384x128, .f32⟩
  | _, _ => ⟨S2x128x128x128x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c32_i32 : BitVec 32 := 32#32
  let v0 : BitVec 32 := Scalar.muli arg0 c32_i32
  let c128_i32 : BitVec 32 := 128#32
  let v1 : BitVec 32 := Scalar.divsi v0 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x3x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S2x128x128x128x4 : Shape := ⟨5, ![2, 128, 128, 128, 4]⟩
abbrev S2x128x128x128x3 : Shape := ⟨5, ![2, 128, 128, 128, 3]⟩
abbrev S2x128x128x128x1 : Shape := ⟨5, ![2, 128, 128, 128, 1]⟩
abbrev S2x128x128x128 : Shape := ⟨4, ![2, 128, 128, 128]⟩
abbrev S_ : Shape := ⟨0, ![]⟩
abbrev S2 : Shape := ⟨1, ![2]⟩
abbrev S2x1x1x1 : Shape := ⟨4, ![2, 1, 1, 1]⟩

abbrev nBuf : Space → Nat
  | .hbm => 399
  | .vmem => 0
  | .smem => 0
  | _ => 0

abbrev hbmTy0_0 (i : Nat) : BufTy := match i % 128 with
  | 0 => ⟨S2x128x128x128x4, .f32⟩
  | 1 => ⟨S2x128x128x128x3, .f32⟩
  | 2 => ⟨S2x128x128x128x1, .f32⟩
  | 3 => ⟨S2x128x128x128, .f32⟩
  | 4 => ⟨S2x128x128x128x1, .f32⟩
  | 5 => ⟨S2x128x128x128, .f32⟩
  | 6 => ⟨S2x128x128x128x1, .f32⟩
  | 7 => ⟨S2x128x128x128, .f32⟩
  | 8 => ⟨S2x128x128x128, .f32⟩
  | 9 => ⟨S2x128x128x128, .f32⟩
  | 10 => ⟨S2x128x128x128, .f32⟩
  | 11 => ⟨S2x128x128x128, .i32⟩
  | 12 => ⟨S_, .i32⟩
  | 13 => ⟨S_, .i32⟩
  | 14 => ⟨S_, .i32⟩
  | 15 => ⟨S2x128x128x128, .i32⟩
  | 16 => ⟨S2x128x128x128, .i32⟩
  | 17 => ⟨S_, .i32⟩
  | 18 => ⟨S2x128x128x128, .i32⟩
  | 19 => ⟨S2x128x128x128, .i32⟩
  | 20 => ⟨S2x128x128x128, .i32⟩
  | 21 => ⟨S_, .i32⟩
  | 22 => ⟨S_, .i32⟩
  | 23 => ⟨S_, .i32⟩
  | 24 => ⟨S2x128x128x128, .i32⟩
  | 25 => ⟨S2x128x128x128, .i32⟩
  | 26 => ⟨S_, .i32⟩
  | 27 => ⟨S2x128x128x128, .i32⟩
  | 28 => ⟨S2x128x128x128, .i32⟩
  | 29 => ⟨S2x128x128x128, .i32⟩
  | 30 => ⟨S_, .i32⟩
  | 31 => ⟨S_, .i32⟩
  | 32 => ⟨S_, .i32⟩
  | 33 => ⟨S2x128x128x128, .i32⟩
  | 34 => ⟨S2x128x128x128, .i32⟩
  | 35 => ⟨S_, .i32⟩
  | 36 => ⟨S2x128x128x128, .i32⟩
  | 37 => ⟨S2x128x128x128, .i32⟩
  | 38 => ⟨S_, .f32⟩
  | 39 => ⟨S2x128x128x128, .f32⟩
  | 40 => ⟨S2x128x128x128, .f32⟩
  | 41 => ⟨S2x128x128x128, .i32⟩
  | 42 => ⟨S_, .i32⟩
  | 43 => ⟨S_, .i32⟩
  | 44 => ⟨S_, .i32⟩
  | 45 => ⟨S2x128x128x128, .i32⟩
  | 46 => ⟨S2x128x128x128, .i32⟩
  | 47 => ⟨S_, .i32⟩
  | 48 => ⟨S2x128x128x128, .i32⟩
  | 49 => ⟨S2x128x128x128, .i32⟩
  | 50 => ⟨S_, .f32⟩
  | 51 => ⟨S2x128x128x128, .f32⟩
  | 52 => ⟨S2x128x128x128, .f32⟩
  | 53 => ⟨S2x128x128x128, .i32⟩
  | 54 => ⟨S_, .i32⟩
  | 55 => ⟨S_, .i32⟩
  | 56 => ⟨S_, .i32⟩
  | 57 => ⟨S2x128x128x128, .i32⟩
  | 58 => ⟨S2x128x128x128, .i32⟩
  | 59 => ⟨S_, .i32⟩
  | 60 => ⟨S2x128x128x128, .i32⟩
  | 61 => ⟨S2x128x128x128, .i32⟩
  | 62 => ⟨S_, .f32⟩
  | 63 => ⟨S2x128x128x128, .f32⟩
  | 64 => ⟨S2x128x128x128, .f32⟩
  | 65 => ⟨S2x128x128x128, .i32⟩
  | 66 => ⟨S_, .i32⟩
  | 67 => ⟨S_, .i32⟩
  | 68 => ⟨S_, .i32⟩
  | 69 => ⟨S2x128x128x128, .i32⟩
  | 70 => ⟨S2x128x128x128, .i32⟩
  | 71 => ⟨S_, .i32⟩
  | 72 => ⟨S2x128x128x128, .i32⟩
  | 73 => ⟨S2x128x128x128, .i32⟩
  | 74 => ⟨S2x128x128x128, .f32⟩
  | 75 => ⟨S2x128x128x128x1, .f32⟩
  | 76 => ⟨S2x128x128x128, .f32⟩
  | 77 => ⟨S2x128x128x128x1, .f32⟩
  | 78 => ⟨S2x128x128x128, .f32⟩
  | 79 => ⟨S2x128x128x128x1, .f32⟩
  | 80 => ⟨S_, .f32⟩
  | 81 => ⟨S2x128x128x128x1, .f32⟩
  | 82 => ⟨S2x128x128x128x1, .f32⟩
  | 83 => ⟨S_, .f32⟩
  | 84 => ⟨S2x128x128x128x1, .f32⟩
  | 85 => ⟨S2x128x128x128x1, .f32⟩
  | 86 => ⟨S_, .f32⟩
  | 87 => ⟨S2x128x128x128x1, .f32⟩
  | 88 => ⟨S2x128x128x128x1, .f32⟩
  | 89 => ⟨S2, .i32⟩
  | 90 => ⟨S2x1x1x1, .i32⟩
  | 91 => ⟨S2x128x128x128, .i32⟩
  | 92 => ⟨S_, .i32⟩
  | 93 => ⟨S2x128x128x128, .i32⟩
  | 94 => ⟨S2x128x128x128, .i1⟩
  | 95 => ⟨S_, .i32⟩
  | 96 => ⟨S2x128x128x128, .i32⟩
  | 97 => ⟨S2x128x128x128, .i32⟩
  | 98 => ⟨S2x128x128x128, .i32⟩
  | 99 => ⟨S_, .i32⟩
  | 100 => ⟨S2x128x128x128, .i32⟩
  | 101 => ⟨S2x128x128x128, .i1⟩
  | 102 => ⟨S_, .i32⟩
  | 103 => ⟨S2x128x128x128, .i32⟩
  | 104 => ⟨S2x128x128x128, .i32⟩
  | 105 => ⟨S2x128x128x128, .i32⟩
  | 106 => ⟨S_, .i32⟩
  | 107 => ⟨S2x128x128x128, .i32⟩
  | 108 => ⟨S2x128x128x128, .i1⟩
  | 109 => ⟨S_, .i32⟩
  | 110 => ⟨S2x128x128x128, .i32⟩
  | 111 => ⟨S2x128x128x128, .i32⟩
  | 112 => ⟨S2x128x128x128, .i32⟩
  | 113 => ⟨S_, .i32⟩
  | 114 => ⟨S2x128x128x128, .i32⟩
  | 115 => ⟨S2x128x128x128, .i1⟩
  | 116 => ⟨S_, .i32⟩
  | 117 => ⟨S2x128x128x128, .i32⟩
  | 118 => ⟨S2x128x128x128, .i32⟩
  | 119 => ⟨S2x128x128x128, .i32⟩
  | 120 => ⟨S2x128x128x128x1, .i32⟩
  | 121 => ⟨S2x128x128x128x1, .i32⟩
  | 122 => ⟨S2x128x128x128x1, .i32⟩
  | 123 => ⟨S2x128x128x128x1, .i32⟩
  | 124 => ⟨S2x128x128x128x4, .i32⟩
  | 125 => ⟨S2x128x128x128x4, .f32⟩
  | 126 => ⟨S_, .i32⟩
  | 127 => ⟨S2x128x128x128, .i32⟩
  | _ => ⟨S2x128x128x128x4, .f32⟩

abbrev hbmTy0_1 (i : Nat) : BufTy := match i % 128 with
  | 0 => ⟨S2x128x128x128, .i1⟩
  | 1 => ⟨S_, .i32⟩
  | 2 => ⟨S2x128x128x128, .i32⟩
  | 3 => ⟨S2x128x128x128, .i32⟩
  | 4 => ⟨S2x128x128x128, .i32⟩
  | 5 => ⟨S_, .i32⟩
  | 6 => ⟨S2x128x128x128, .i32⟩
  | 7 => ⟨S2x128x128x128, .i1⟩
  | 8 => ⟨S_, .i32⟩
  | 9 => ⟨S2x128x128x128, .i32⟩
  | 10 => ⟨S2x128x128x128, .i32⟩
  | 11 => ⟨S2x128x128x128, .i32⟩
  | 12 => ⟨S_, .i32⟩
  | 13 => ⟨S2x128x128x128, .i32⟩
  | 14 => ⟨S2x128x128x128, .i1⟩
  | 15 => ⟨S_, .i32⟩
  | 16 => ⟨S2x128x128x128, .i32⟩
  | 17 => ⟨S2x128x128x128, .i32⟩
  | 18 => ⟨S2x128x128x128, .i32⟩
  | 19 => ⟨S_, .i32⟩
  | 20 => ⟨S2x128x128x128, .i32⟩
  | 21 => ⟨S2x128x128x128, .i1⟩
  | 22 => ⟨S_, .i32⟩
  | 23 => ⟨S2x128x128x128, .i32⟩
  | 24 => ⟨S2x128x128x128, .i32⟩
  | 25 => ⟨S2x128x128x128, .i32⟩
  | 26 => ⟨S2x128x128x128x1, .i32⟩
  | 27 => ⟨S2x128x128x128x1, .i32⟩
  | 28 => ⟨S2x128x128x128x1, .i32⟩
  | 29 => ⟨S2x128x128x128x1, .i32⟩
  | 30 => ⟨S2x128x128x128x4, .i32⟩
  | 31 => ⟨S2x128x128x128x4, .f32⟩
  | 32 => ⟨S_, .i32⟩
  | 33 => ⟨S2x128x128x128, .i32⟩
  | 34 => ⟨S2x128x128x128, .i1⟩
  | 35 => ⟨S_, .i32⟩
  | 36 => ⟨S2x128x128x128, .i32⟩
  | 37 => ⟨S2x128x128x128, .i32⟩
  | 38 => ⟨S2x128x128x128, .i32⟩
  | 39 => ⟨S_, .i32⟩
  | 40 => ⟨S2x128x128x128, .i32⟩
  | 41 => ⟨S2x128x128x128, .i1⟩
  | 42 => ⟨S_, .i32⟩
  | 43 => ⟨S2x128x128x128, .i32⟩
  | 44 => ⟨S2x128x128x128, .i32⟩
  | 45 => ⟨S2x128x128x128, .i32⟩
  | 46 => ⟨S_, .i32⟩
  | 47 => ⟨S2x128x128x128, .i32⟩
  | 48 => ⟨S2x128x128x128, .i1⟩
  | 49 => ⟨S_, .i32⟩
  | 50 => ⟨S2x128x128x128, .i32⟩
  | 51 => ⟨S2x128x128x128, .i32⟩
  | 52 => ⟨S2x128x128x128, .i32⟩
  | 53 => ⟨S_, .i32⟩
  | 54 => ⟨S2x128x128x128, .i32⟩
  | 55 => ⟨S2x128x128x128, .i1⟩
  | 56 => ⟨S_, .i32⟩
  | 57 => ⟨S2x128x128x128, .i32⟩
  | 58 => ⟨S2x128x128x128, .i32⟩
  | 59 => ⟨S2x128x128x128, .i32⟩
  | 60 => ⟨S2x128x128x128x1, .i32⟩
  | 61 => ⟨S2x128x128x128x1, .i32⟩
  | 62 => ⟨S2x128x128x128x1, .i32⟩
  | 63 => ⟨S2x128x128x128x1, .i32⟩
  | 64 => ⟨S2x128x128x128x4, .i32⟩
  | 65 => ⟨S2x128x128x128x4, .f32⟩
  | 66 => ⟨S_, .i32⟩
  | 67 => ⟨S2x128x128x128, .i32⟩
  | 68 => ⟨S2x128x128x128, .i1⟩
  | 69 => ⟨S_, .i32⟩
  | 70 => ⟨S2x128x128x128, .i32⟩
  | 71 => ⟨S2x128x128x128, .i32⟩
  | 72 => ⟨S2x128x128x128, .i32⟩
  | 73 => ⟨S_, .i32⟩
  | 74 => ⟨S2x128x128x128, .i32⟩
  | 75 => ⟨S2x128x128x128, .i1⟩
  | 76 => ⟨S_, .i32⟩
  | 77 => ⟨S2x128x128x128, .i32⟩
  | 78 => ⟨S2x128x128x128, .i32⟩
  | 79 => ⟨S2x128x128x128, .i32⟩
  | 80 => ⟨S_, .i32⟩
  | 81 => ⟨S2x128x128x128, .i32⟩
  | 82 => ⟨S2x128x128x128, .i1⟩
  | 83 => ⟨S_, .i32⟩
  | 84 => ⟨S2x128x128x128, .i32⟩
  | 85 => ⟨S2x128x128x128, .i32⟩
  | 86 => ⟨S2x128x128x128, .i32⟩
  | 87 => ⟨S_, .i32⟩
  | 88 => ⟨S2x128x128x128, .i32⟩
  | 89 => ⟨S2x128x128x128, .i1⟩
  | 90 => ⟨S_, .i32⟩
  | 91 => ⟨S2x128x128x128, .i32⟩
  | 92 => ⟨S2x128x128x128, .i32⟩
  | 93 => ⟨S2x128x128x128, .i32⟩
  | 94 => ⟨S2x128x128x128x1, .i32⟩
  | 95 => ⟨S2x128x128x128x1, .i32⟩
  | 96 => ⟨S2x128x128x128x1, .i32⟩
  | 97 => ⟨S2x128x128x128x1, .i32⟩
  | 98 => ⟨S2x128x128x128x4, .i32⟩
  | 99 => ⟨S2x128x128x128x4, .f32⟩
  | 100 => ⟨S_, .i32⟩
  | 101 => ⟨S2x128x128x128, .i32⟩
  | 102 => ⟨S2x128x128x128, .i1⟩
  | 103 => ⟨S_, .i32⟩
  | 104 => ⟨S2x128x128x128, .i32⟩
  | 105 => ⟨S2x128x128x128, .i32⟩
  | 106 => ⟨S2x128x128x128, .i32⟩
  | 107 => ⟨S_, .i32⟩
  | 108 => ⟨S2x128x128x128, .i32⟩
  | 109 => ⟨S2x128x128x128, .i1⟩
  | 110 => ⟨S_, .i32⟩
  | 111 => ⟨S2x128x128x128, .i32⟩
  | 112 => ⟨S2x128x128x128, .i32⟩
  | 113 => ⟨S2x128x128x128, .i32⟩
  | 114 => ⟨S_, .i32⟩
  | 115 => ⟨S2x128x128x128, .i32⟩
  | 116 => ⟨S2x128x128x128, .i1⟩
  | 117 => ⟨S_, .i32⟩
  | 118 => ⟨S2x128x128x128, .i32⟩
  | 119 => ⟨S2x128x128x128, .i32⟩
  | 120 => ⟨S2x128x128x128, .i32⟩
  | 121 => ⟨S_, .i32⟩
  | 122 => ⟨S2x128x128x128, .i32⟩
  | 123 => ⟨S2x128x128x128, .i1⟩
  | 124 => ⟨S_, .i32⟩
  | 125 => ⟨S2x128x128x128, .i32⟩
  | 126 => ⟨S2x128x128x128, .i32⟩
  | 127 => ⟨S2x128x128x128, .i32⟩
  | _ => ⟨S2x128x128x128x4, .f32⟩

abbrev hbmTy0_2 (i : Nat) : BufTy := match i % 128 with
  | 0 => ⟨S2x128x128x128x1, .i32⟩
  | 1 => ⟨S2x128x128x128x1, .i32⟩
  | 2 => ⟨S2x128x128x128x1, .i32⟩
  | 3 => ⟨S2x128x128x128x1, .i32⟩
  | 4 => ⟨S2x128x128x128x4, .i32⟩
  | 5 => ⟨S2x128x128x128x4, .f32⟩
  | 6 => ⟨S_, .i32⟩
  | 7 => ⟨S2x128x128x128, .i32⟩
  | 8 => ⟨S2x128x128x128, .i1⟩
  | 9 => ⟨S_, .i32⟩
  | 10 => ⟨S2x128x128x128, .i32⟩
  | 11 => ⟨S2x128x128x128, .i32⟩
  | 12 => ⟨S2x128x128x128, .i32⟩
  | 13 => ⟨S_, .i32⟩
  | 14 => ⟨S2x128x128x128, .i32⟩
  | 15 => ⟨S2x128x128x128, .i1⟩
  | 16 => ⟨S_, .i32⟩
  | 17 => ⟨S2x128x128x128, .i32⟩
  | 18 => ⟨S2x128x128x128, .i32⟩
  | 19 => ⟨S2x128x128x128, .i32⟩
  | 20 => ⟨S_, .i32⟩
  | 21 => ⟨S2x128x128x128, .i32⟩
  | 22 => ⟨S2x128x128x128, .i1⟩
  | 23 => ⟨S_, .i32⟩
  | 24 => ⟨S2x128x128x128, .i32⟩
  | 25 => ⟨S2x128x128x128, .i32⟩
  | 26 => ⟨S2x128x128x128, .i32⟩
  | 27 => ⟨S_, .i32⟩
  | 28 => ⟨S2x128x128x128, .i32⟩
  | 29 => ⟨S2x128x128x128, .i1⟩
  | 30 => ⟨S_, .i32⟩
  | 31 => ⟨S2x128x128x128, .i32⟩
  | 32 => ⟨S2x128x128x128, .i32⟩
  | 33 => ⟨S2x128x128x128, .i32⟩
  | 34 => ⟨S2x128x128x128x1, .i32⟩
  | 35 => ⟨S2x128x128x128x1, .i32⟩
  | 36 => ⟨S2x128x128x128x1, .i32⟩
  | 37 => ⟨S2x128x128x128x1, .i32⟩
  | 38 => ⟨S2x128x128x128x4, .i32⟩
  | 39 => ⟨S2x128x128x128x4, .f32⟩
  | 40 => ⟨S_, .i32⟩
  | 41 => ⟨S2x128x128x128, .i32⟩
  | 42 => ⟨S2x128x128x128, .i1⟩
  | 43 => ⟨S_, .i32⟩
  | 44 => ⟨S2x128x128x128, .i32⟩
  | 45 => ⟨S2x128x128x128, .i32⟩
  | 46 => ⟨S2x128x128x128, .i32⟩
  | 47 => ⟨S_, .i32⟩
  | 48 => ⟨S2x128x128x128, .i32⟩
  | 49 => ⟨S2x128x128x128, .i1⟩
  | 50 => ⟨S_, .i32⟩
  | 51 => ⟨S2x128x128x128, .i32⟩
  | 52 => ⟨S2x128x128x128, .i32⟩
  | 53 => ⟨S2x128x128x128, .i32⟩
  | 54 => ⟨S_, .i32⟩
  | 55 => ⟨S2x128x128x128, .i32⟩
  | 56 => ⟨S2x128x128x128, .i1⟩
  | 57 => ⟨S_, .i32⟩
  | 58 => ⟨S2x128x128x128, .i32⟩
  | 59 => ⟨S2x128x128x128, .i32⟩
  | 60 => ⟨S2x128x128x128, .i32⟩
  | 61 => ⟨S_, .i32⟩
  | 62 => ⟨S2x128x128x128, .i32⟩
  | 63 => ⟨S2x128x128x128, .i1⟩
  | 64 => ⟨S_, .i32⟩
  | 65 => ⟨S2x128x128x128, .i32⟩
  | 66 => ⟨S2x128x128x128, .i32⟩
  | 67 => ⟨S2x128x128x128, .i32⟩
  | 68 => ⟨S2x128x128x128x1, .i32⟩
  | 69 => ⟨S2x128x128x128x1, .i32⟩
  | 70 => ⟨S2x128x128x128x1, .i32⟩
  | 71 => ⟨S2x128x128x128x1, .i32⟩
  | 72 => ⟨S2x128x128x128x4, .i32⟩
  | 73 => ⟨S2x128x128x128x4, .f32⟩
  | 74 => ⟨S_, .i32⟩
  | 75 => ⟨S2x128x128x128, .i32⟩
  | 76 => ⟨S2x128x128x128, .i1⟩
  | 77 => ⟨S_, .i32⟩
  | 78 => ⟨S2x128x128x128, .i32⟩
  | 79 => ⟨S2x128x128x128, .i32⟩
  | 80 => ⟨S2x128x128x128, .i32⟩
  | 81 => ⟨S_, .i32⟩
  | 82 => ⟨S2x128x128x128, .i32⟩
  | 83 => ⟨S2x128x128x128, .i1⟩
  | 84 => ⟨S_, .i32⟩
  | 85 => ⟨S2x128x128x128, .i32⟩
  | 86 => ⟨S2x128x128x128, .i32⟩
  | 87 => ⟨S2x128x128x128, .i32⟩
  | 88 => ⟨S_, .i32⟩
  | 89 => ⟨S2x128x128x128, .i32⟩
  | 90 => ⟨S2x128x128x128, .i1⟩
  | 91 => ⟨S_, .i32⟩
  | 92 => ⟨S2x128x128x128, .i32⟩
  | 93 => ⟨S2x128x128x128, .i32⟩
  | 94 => ⟨S2x128x128x128, .i32⟩
  | 95 => ⟨S_, .i32⟩
  | 96 => ⟨S2x128x128x128, .i32⟩
  | 97 => ⟨S2x128x128x128, .i1⟩
  | 98 => ⟨S_, .i32⟩
  | 99 => ⟨S2x128x128x128, .i32⟩
  | 100 => ⟨S2x128x128x128, .i32⟩
  | 101 => ⟨S2x128x128x128, .i32⟩
  | 102 => ⟨S2x128x128x128x1, .i32⟩
  | 103 => ⟨S2x128x128x128x1, .i32⟩
  | 104 => ⟨S2x128x128x128x1, .i32⟩
  | 105 => ⟨S2x128x128x128x1, .i32⟩
  | 106 => ⟨S2x128x128x128x4, .i32⟩
  | 107 => ⟨S2x128x128x128x4, .f32⟩
  | 108 => ⟨S2x128x128x128x4, .f32⟩
  | 109 => ⟨S2x128x128x128x4, .f32⟩
  | 110 => ⟨S2x128x128x128x4, .f32⟩
  | 111 => ⟨S2x128x128x128x4, .f32⟩
  | 112 => ⟨S2x128x128x128x4, .f32⟩
  | 113 => ⟨S2x128x128x128x4, .f32⟩
  | 114 => ⟨S2x128x128x128x4, .f32⟩
  | 115 => ⟨S2x128x128x128x4, .f32⟩
  | 116 => ⟨S2x128x128x128x4, .f32⟩
  | 117 => ⟨S2x128x128x128x4, .f32⟩
  | 118 => ⟨S2x128x128x128x4, .f32⟩
  | 119 => ⟨S2x128x128x128x4, .f32⟩
  | 120 => ⟨S2x128x128x128x4, .f32⟩
  | 121 => ⟨S2x128x128x128x4, .f32⟩
  | 122 => ⟨S2x128x128x128x4, .f32⟩
  | 123 => ⟨S2x128x128x128x4, .f32⟩
  | 124 => ⟨S2x128x128x128x4, .f32⟩
  | 125 => ⟨S2x128x128x128x4, .f32⟩
  | 126 => ⟨S2x128x128x128x4, .f32⟩
  | 127 => ⟨S2x128x128x128x4, .f32⟩
  | _ => ⟨S2x128x128x128x4, .f32⟩

abbrev hbmTy0_3 (i : Nat) : BufTy := match i % 128 with
  | 0 => ⟨S2x128x128x128x4, .f32⟩
  | 1 => ⟨S2x128x128x128x4, .f32⟩
  | 2 => ⟨S2x128x128x128x4, .f32⟩
  | 3 => ⟨S2x128x128x128x4, .f32⟩
  | 4 => ⟨S2x128x128x128x4, .f32⟩
  | 5 => ⟨S2x128x128x128x4, .f32⟩
  | 6 => ⟨S2x128x128x128x4, .f32⟩
  | 7 => ⟨S2x128x128x128x4, .f32⟩
  | 8 => ⟨S2x128x128x128x4, .f32⟩
  | 9 => ⟨S2x128x128x128x4, .f32⟩
  | 10 => ⟨S2x128x128x128x4, .f32⟩
  | 11 => ⟨S2x128x128x128x4, .f32⟩
  | 12 => ⟨S2x128x128x128x4, .f32⟩
  | 13 => ⟨S2x128x128x128x4, .f32⟩
  | 14 => ⟨S2x128x128x128x4, .f32⟩
  | _ => ⟨S2x128x128x128x4, .f32⟩

abbrev hbmTy (i : Nat) : BufTy := match i / 128 with
  | 0 => hbmTy0_0 i
  | 1 => hbmTy0_1 i
  | 2 => hbmTy0_2 i
  | 3 => hbmTy0_3 i
  | _ => ⟨S2x128x128x128x4, .f32⟩

abbrev bufTy : (tb : Table) → Fin (tcTables nBuf tb) → BufTy
  | .hbm, ⟨i, _⟩ => hbmTy i
  | _, _ => ⟨S2x128x128x128x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_c_2 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_c_4 : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_v14 : Ref sig .tc := ⟨.hbm, 37, rfl⟩
abbrev main_cst : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_c_5 : Ref sig .tc := ⟨.hbm, 42, rfl⟩
abbrev main_c_6 : Ref sig .tc := ⟨.hbm, 43, rfl⟩
abbrev main_call3_v0 : Ref sig .tc := ⟨.hbm, 44, rfl⟩
abbrev main_call3_v1 : Ref sig .tc := ⟨.hbm, 45, rfl⟩
abbrev main_call3_v2 : Ref sig .tc := ⟨.hbm, 46, rfl⟩
abbrev main_call3_v3 : Ref sig .tc := ⟨.hbm, 47, rfl⟩
abbrev main_call3_v4 : Ref sig .tc := ⟨.hbm, 48, rfl⟩
abbrev main_v18 : Ref sig .tc := ⟨.hbm, 49, rfl⟩
abbrev main_cst_7 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_c_8 : Ref sig .tc := ⟨.hbm, 54, rfl⟩
abbrev main_c_9 : Ref sig .tc := ⟨.hbm, 55, rfl⟩
abbrev main_call4_v0 : Ref sig .tc := ⟨.hbm, 56, rfl⟩
abbrev main_call4_v1 : Ref sig .tc := ⟨.hbm, 57, rfl⟩
abbrev main_call4_v2 : Ref sig .tc := ⟨.hbm, 58, rfl⟩
abbrev main_call4_v3 : Ref sig .tc := ⟨.hbm, 59, rfl⟩
abbrev main_call4_v4 : Ref sig .tc := ⟨.hbm, 60, rfl⟩
abbrev main_v22 : Ref sig .tc := ⟨.hbm, 61, rfl⟩
abbrev main_cst_10 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_c_11 : Ref sig .tc := ⟨.hbm, 66, rfl⟩
abbrev main_c_12 : Ref sig .tc := ⟨.hbm, 67, rfl⟩
abbrev main_call5_v0 : Ref sig .tc := ⟨.hbm, 68, rfl⟩
abbrev main_call5_v1 : Ref sig .tc := ⟨.hbm, 69, rfl⟩
abbrev main_call5_v2 : Ref sig .tc := ⟨.hbm, 70, rfl⟩
abbrev main_call5_v3 : Ref sig .tc := ⟨.hbm, 71, rfl⟩
abbrev main_call5_v4 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_cst_13 : Ref sig .tc := ⟨.hbm, 80, rfl⟩
abbrev main_v33 : Ref sig .tc := ⟨.hbm, 81, rfl⟩
abbrev main_v34 : Ref sig .tc := ⟨.hbm, 82, rfl⟩
abbrev main_cst_14 : Ref sig .tc := ⟨.hbm, 83, rfl⟩
abbrev main_v35 : Ref sig .tc := ⟨.hbm, 84, rfl⟩
abbrev main_v36 : Ref sig .tc := ⟨.hbm, 85, rfl⟩
abbrev main_cst_15 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_c_16 : Ref sig .tc := ⟨.hbm, 92, rfl⟩
abbrev main_v42 : Ref sig .tc := ⟨.hbm, 93, rfl⟩
abbrev main_v43 : Ref sig .tc := ⟨.hbm, 94, rfl⟩
abbrev main_c_17 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_c_18 : Ref sig .tc := ⟨.hbm, 99, rfl⟩
abbrev main_v47 : Ref sig .tc := ⟨.hbm, 100, rfl⟩
abbrev main_v48 : Ref sig .tc := ⟨.hbm, 101, rfl⟩
abbrev main_c_19 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_c_20 : Ref sig .tc := ⟨.hbm, 106, rfl⟩
abbrev main_v52 : Ref sig .tc := ⟨.hbm, 107, rfl⟩
abbrev main_v53 : Ref sig .tc := ⟨.hbm, 108, rfl⟩
abbrev main_c_21 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_c_22 : Ref sig .tc := ⟨.hbm, 113, rfl⟩
abbrev main_v57 : Ref sig .tc := ⟨.hbm, 114, rfl⟩
abbrev main_v58 : Ref sig .tc := ⟨.hbm, 115, rfl⟩
abbrev main_c_23 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_c_24 : Ref sig .tc := ⟨.hbm, 126, rfl⟩
abbrev main_v68 : Ref sig .tc := ⟨.hbm, 127, rfl⟩
abbrev main_v69 : Ref sig .tc := ⟨.hbm, 128, rfl⟩
abbrev main_c_25 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_c_26 : Ref sig .tc := ⟨.hbm, 133, rfl⟩
abbrev main_v73 : Ref sig .tc := ⟨.hbm, 134, rfl⟩
abbrev main_v74 : Ref sig .tc := ⟨.hbm, 135, rfl⟩
abbrev main_c_27 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_c_28 : Ref sig .tc := ⟨.hbm, 140, rfl⟩
abbrev main_v78 : Ref sig .tc := ⟨.hbm, 141, rfl⟩
abbrev main_v79 : Ref sig .tc := ⟨.hbm, 142, rfl⟩
abbrev main_c_29 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_c_30 : Ref sig .tc := ⟨.hbm, 147, rfl⟩
abbrev main_v83 : Ref sig .tc := ⟨.hbm, 148, rfl⟩
abbrev main_v84 : Ref sig .tc := ⟨.hbm, 149, rfl⟩
abbrev main_c_31 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_c_32 : Ref sig .tc := ⟨.hbm, 160, rfl⟩
abbrev main_v94 : Ref sig .tc := ⟨.hbm, 161, rfl⟩
abbrev main_v95 : Ref sig .tc := ⟨.hbm, 162, rfl⟩
abbrev main_c_33 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_c_34 : Ref sig .tc := ⟨.hbm, 167, rfl⟩
abbrev main_v99 : Ref sig .tc := ⟨.hbm, 168, rfl⟩
abbrev main_v100 : Ref sig .tc := ⟨.hbm, 169, rfl⟩
abbrev main_c_35 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_c_36 : Ref sig .tc := ⟨.hbm, 174, rfl⟩
abbrev main_v104 : Ref sig .tc := ⟨.hbm, 175, rfl⟩
abbrev main_v105 : Ref sig .tc := ⟨.hbm, 176, rfl⟩
abbrev main_c_37 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_c_38 : Ref sig .tc := ⟨.hbm, 181, rfl⟩
abbrev main_v109 : Ref sig .tc := ⟨.hbm, 182, rfl⟩
abbrev main_v110 : Ref sig .tc := ⟨.hbm, 183, rfl⟩
abbrev main_c_39 : Ref sig .tc := ⟨.hbm, 184, rfl⟩
abbrev main_v111 : Ref sig .tc := ⟨.hbm, 185, rfl⟩
abbrev main_v112 : Ref sig .tc := ⟨.hbm, 186, rfl⟩
abbrev main_v113 : Ref sig .tc := ⟨.hbm, 187, rfl⟩
abbrev main_v114 : Ref sig .tc := ⟨.hbm, 188, rfl⟩
abbrev main_v115 : Ref sig .tc := ⟨.hbm, 189, rfl⟩
abbrev main_v116 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_c_40 : Ref sig .tc := ⟨.hbm, 194, rfl⟩
abbrev main_v120 : Ref sig .tc := ⟨.hbm, 195, rfl⟩
abbrev main_v121 : Ref sig .tc := ⟨.hbm, 196, rfl⟩
abbrev main_c_41 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_c_42 : Ref sig .tc := ⟨.hbm, 201, rfl⟩
abbrev main_v125 : Ref sig .tc := ⟨.hbm, 202, rfl⟩
abbrev main_v126 : Ref sig .tc := ⟨.hbm, 203, rfl⟩
abbrev main_c_43 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_c_44 : Ref sig .tc := ⟨.hbm, 208, rfl⟩
abbrev main_v130 : Ref sig .tc := ⟨.hbm, 209, rfl⟩
abbrev main_v131 : Ref sig .tc := ⟨.hbm, 210, rfl⟩
abbrev main_c_45 : Ref sig .tc := ⟨.hbm, 211, rfl⟩
abbrev main_v132 : Ref sig .tc := ⟨.hbm, 212, rfl⟩
abbrev main_v133 : Ref sig .tc := ⟨.hbm, 213, rfl⟩
abbrev main_v134 : Ref sig .tc := ⟨.hbm, 214, rfl⟩
abbrev main_c_46 : Ref sig .tc := ⟨.hbm, 215, rfl⟩
abbrev main_v135 : Ref sig .tc := ⟨.hbm, 216, rfl⟩
abbrev main_v136 : Ref sig .tc := ⟨.hbm, 217, rfl⟩
abbrev main_c_47 : Ref sig .tc := ⟨.hbm, 218, rfl⟩
abbrev main_v137 : Ref sig .tc := ⟨.hbm, 219, rfl⟩
abbrev main_v138 : Ref sig .tc := ⟨.hbm, 220, rfl⟩
abbrev main_v139 : Ref sig .tc := ⟨.hbm, 221, rfl⟩
abbrev main_v140 : Ref sig .tc := ⟨.hbm, 222, rfl⟩
abbrev main_v141 : Ref sig .tc := ⟨.hbm, 223, rfl⟩
abbrev main_v142 : Ref sig .tc := ⟨.hbm, 224, rfl⟩
abbrev main_v143 : Ref sig .tc := ⟨.hbm, 225, rfl⟩
abbrev main_v144 : Ref sig .tc := ⟨.hbm, 226, rfl⟩
abbrev main_v145 : Ref sig .tc := ⟨.hbm, 227, rfl⟩
abbrev main_c_48 : Ref sig .tc := ⟨.hbm, 228, rfl⟩
abbrev main_v146 : Ref sig .tc := ⟨.hbm, 229, rfl⟩
abbrev main_v147 : Ref sig .tc := ⟨.hbm, 230, rfl⟩
abbrev main_c_49 : Ref sig .tc := ⟨.hbm, 231, rfl⟩
abbrev main_v148 : Ref sig .tc := ⟨.hbm, 232, rfl⟩
abbrev main_v149 : Ref sig .tc := ⟨.hbm, 233, rfl⟩
abbrev main_v150 : Ref sig .tc := ⟨.hbm, 234, rfl⟩
abbrev main_c_50 : Ref sig .tc := ⟨.hbm, 235, rfl⟩
abbrev main_v151 : Ref sig .tc := ⟨.hbm, 236, rfl⟩
abbrev main_v152 : Ref sig .tc := ⟨.hbm, 237, rfl⟩
abbrev main_c_51 : Ref sig .tc := ⟨.hbm, 238, rfl⟩
abbrev main_v153 : Ref sig .tc := ⟨.hbm, 239, rfl⟩
abbrev main_v154 : Ref sig .tc := ⟨.hbm, 240, rfl⟩
abbrev main_v155 : Ref sig .tc := ⟨.hbm, 241, rfl⟩
abbrev main_c_52 : Ref sig .tc := ⟨.hbm, 242, rfl⟩
abbrev main_v156 : Ref sig .tc := ⟨.hbm, 243, rfl⟩
abbrev main_v157 : Ref sig .tc := ⟨.hbm, 244, rfl⟩
abbrev main_c_53 : Ref sig .tc := ⟨.hbm, 245, rfl⟩
abbrev main_v158 : Ref sig .tc := ⟨.hbm, 246, rfl⟩
abbrev main_v159 : Ref sig .tc := ⟨.hbm, 247, rfl⟩
abbrev main_v160 : Ref sig .tc := ⟨.hbm, 248, rfl⟩
abbrev main_c_54 : Ref sig .tc := ⟨.hbm, 249, rfl⟩
abbrev main_v161 : Ref sig .tc := ⟨.hbm, 250, rfl⟩
abbrev main_v162 : Ref sig .tc := ⟨.hbm, 251, rfl⟩
abbrev main_c_55 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_v166 : Ref sig .tc := ⟨.hbm, 256, rfl⟩
abbrev main_v167 : Ref sig .tc := ⟨.hbm, 257, rfl⟩
abbrev main_v168 : Ref sig .tc := ⟨.hbm, 258, rfl⟩
abbrev main_v169 : Ref sig .tc := ⟨.hbm, 259, rfl⟩
abbrev main_v170 : Ref sig .tc := ⟨.hbm, 260, rfl⟩
abbrev main_v171 : Ref sig .tc := ⟨.hbm, 261, rfl⟩
abbrev main_c_56 : Ref sig .tc := ⟨.hbm, 262, rfl⟩
abbrev main_v172 : Ref sig .tc := ⟨.hbm, 263, rfl⟩
abbrev main_v173 : Ref sig .tc := ⟨.hbm, 264, rfl⟩
abbrev main_c_57 : Ref sig .tc := ⟨.hbm, 265, rfl⟩
abbrev main_v174 : Ref sig .tc := ⟨.hbm, 266, rfl⟩
abbrev main_v175 : Ref sig .tc := ⟨.hbm, 267, rfl⟩
abbrev main_v176 : Ref sig .tc := ⟨.hbm, 268, rfl⟩
abbrev main_c_58 : Ref sig .tc := ⟨.hbm, 269, rfl⟩
abbrev main_v177 : Ref sig .tc := ⟨.hbm, 270, rfl⟩
abbrev main_v178 : Ref sig .tc := ⟨.hbm, 271, rfl⟩
abbrev main_c_59 : Ref sig .tc := ⟨.hbm, 272, rfl⟩
abbrev main_v179 : Ref sig .tc := ⟨.hbm, 273, rfl⟩
abbrev main_v180 : Ref sig .tc := ⟨.hbm, 274, rfl⟩
abbrev main_v181 : Ref sig .tc := ⟨.hbm, 275, rfl⟩
abbrev main_c_60 : Ref sig .tc := ⟨.hbm, 276, rfl⟩
abbrev main_v182 : Ref sig .tc := ⟨.hbm, 277, rfl⟩
abbrev main_v183 : Ref sig .tc := ⟨.hbm, 278, rfl⟩
abbrev main_c_61 : Ref sig .tc := ⟨.hbm, 279, rfl⟩
abbrev main_v184 : Ref sig .tc := ⟨.hbm, 280, rfl⟩
abbrev main_v185 : Ref sig .tc := ⟨.hbm, 281, rfl⟩
abbrev main_v186 : Ref sig .tc := ⟨.hbm, 282, rfl⟩
abbrev main_c_62 : Ref sig .tc := ⟨.hbm, 283, rfl⟩
abbrev main_v187 : Ref sig .tc := ⟨.hbm, 284, rfl⟩
abbrev main_v188 : Ref sig .tc := ⟨.hbm, 285, rfl⟩
abbrev main_c_63 : Ref sig .tc := ⟨.hbm, 286, rfl⟩
abbrev main_v189 : Ref sig .tc := ⟨.hbm, 287, rfl⟩
abbrev main_v190 : Ref sig .tc := ⟨.hbm, 288, rfl⟩
abbrev main_v191 : Ref sig .tc := ⟨.hbm, 289, rfl⟩
abbrev main_v192 : Ref sig .tc := ⟨.hbm, 290, rfl⟩
abbrev main_v193 : Ref sig .tc := ⟨.hbm, 291, rfl⟩
abbrev main_v194 : Ref sig .tc := ⟨.hbm, 292, rfl⟩
abbrev main_v195 : Ref sig .tc := ⟨.hbm, 293, rfl⟩
abbrev main_v196 : Ref sig .tc := ⟨.hbm, 294, rfl⟩
abbrev main_v197 : Ref sig .tc := ⟨.hbm, 295, rfl⟩
abbrev main_c_64 : Ref sig .tc := ⟨.hbm, 296, rfl⟩
abbrev main_v198 : Ref sig .tc := ⟨.hbm, 297, rfl⟩
abbrev main_v199 : Ref sig .tc := ⟨.hbm, 298, rfl⟩
abbrev main_c_65 : Ref sig .tc := ⟨.hbm, 299, rfl⟩
abbrev main_v200 : Ref sig .tc := ⟨.hbm, 300, rfl⟩
abbrev main_v201 : Ref sig .tc := ⟨.hbm, 301, rfl⟩
abbrev main_v202 : Ref sig .tc := ⟨.hbm, 302, rfl⟩
abbrev main_c_66 : Ref sig .tc := ⟨.hbm, 303, rfl⟩
abbrev main_v203 : Ref sig .tc := ⟨.hbm, 304, rfl⟩
abbrev main_v204 : Ref sig .tc := ⟨.hbm, 305, rfl⟩
abbrev main_c_67 : Ref sig .tc := ⟨.hbm, 306, rfl⟩
abbrev main_v205 : Ref sig .tc := ⟨.hbm, 307, rfl⟩
abbrev main_v206 : Ref sig .tc := ⟨.hbm, 308, rfl⟩
abbrev main_v207 : Ref sig .tc := ⟨.hbm, 309, rfl⟩
abbrev main_c_68 : Ref sig .tc := ⟨.hbm, 310, rfl⟩
abbrev main_v208 : Ref sig .tc := ⟨.hbm, 311, rfl⟩
abbrev main_v209 : Ref sig .tc := ⟨.hbm, 312, rfl⟩
abbrev main_c_69 : Ref sig .tc := ⟨.hbm, 313, rfl⟩
abbrev main_v210 : Ref sig .tc := ⟨.hbm, 314, rfl⟩
abbrev main_v211 : Ref sig .tc := ⟨.hbm, 315, rfl⟩
abbrev main_v212 : Ref sig .tc := ⟨.hbm, 316, rfl⟩
abbrev main_c_70 : Ref sig .tc := ⟨.hbm, 317, rfl⟩
abbrev main_v213 : Ref sig .tc := ⟨.hbm, 318, rfl⟩
abbrev main_v214 : Ref sig .tc := ⟨.hbm, 319, rfl⟩
abbrev main_c_71 : Ref sig .tc := ⟨.hbm, 320, rfl⟩
abbrev main_v215 : Ref sig .tc := ⟨.hbm, 321, rfl⟩
abbrev main_v216 : Ref sig .tc := ⟨.hbm, 322, rfl⟩
abbrev main_v217 : Ref sig .tc := ⟨.hbm, 323, rfl⟩
abbrev main_v218 : Ref sig .tc := ⟨.hbm, 324, rfl⟩
abbrev main_v219 : Ref sig .tc := ⟨.hbm, 325, rfl⟩
abbrev main_v220 : Ref sig .tc := ⟨.hbm, 326, rfl⟩
abbrev main_v221 : Ref sig .tc := ⟨.hbm, 327, rfl⟩
abbrev main_v222 : Ref sig .tc := ⟨.hbm, 328, rfl⟩
abbrev main_v223 : Ref sig .tc := ⟨.hbm, 329, rfl⟩
abbrev main_c_72 : Ref sig .tc := ⟨.hbm, 330, rfl⟩
abbrev main_v224 : Ref sig .tc := ⟨.hbm, 331, rfl⟩
abbrev main_v225 : Ref sig .tc := ⟨.hbm, 332, rfl⟩
abbrev main_c_73 : Ref sig .tc := ⟨.hbm, 333, rfl⟩
abbrev main_v226 : Ref sig .tc := ⟨.hbm, 334, rfl⟩
abbrev main_v227 : Ref sig .tc := ⟨.hbm, 335, rfl⟩
abbrev main_v228 : Ref sig .tc := ⟨.hbm, 336, rfl⟩
abbrev main_c_74 : Ref sig .tc := ⟨.hbm, 337, rfl⟩
abbrev main_v229 : Ref sig .tc := ⟨.hbm, 338, rfl⟩
abbrev main_v230 : Ref sig .tc := ⟨.hbm, 339, rfl⟩
abbrev main_c_75 : Ref sig .tc := ⟨.hbm, 340, rfl⟩
abbrev main_v231 : Ref sig .tc := ⟨.hbm, 341, rfl⟩
abbrev main_v232 : Ref sig .tc := ⟨.hbm, 342, rfl⟩
abbrev main_v233 : Ref sig .tc := ⟨.hbm, 343, rfl⟩
abbrev main_c_76 : Ref sig .tc := ⟨.hbm, 344, rfl⟩
abbrev main_v234 : Ref sig .tc := ⟨.hbm, 345, rfl⟩
abbrev main_v235 : Ref sig .tc := ⟨.hbm, 346, rfl⟩
abbrev main_c_77 : Ref sig .tc := ⟨.hbm, 347, rfl⟩
abbrev main_v236 : Ref sig .tc := ⟨.hbm, 348, rfl⟩
abbrev main_v237 : Ref sig .tc := ⟨.hbm, 349, rfl⟩
abbrev main_v238 : Ref sig .tc := ⟨.hbm, 350, rfl⟩
abbrev main_c_78 : Ref sig .tc := ⟨.hbm, 351, rfl⟩
abbrev main_v239 : Ref sig .tc := ⟨.hbm, 352, rfl⟩
abbrev main_v240 : Ref sig .tc := ⟨.hbm, 353, rfl⟩
abbrev main_c_79 : Ref sig .tc := ⟨.hbm, 354, rfl⟩
abbrev main_v241 : Ref sig .tc := ⟨.hbm, 355, rfl⟩
abbrev main_v242 : Ref sig .tc := ⟨.hbm, 356, rfl⟩
abbrev main_v243 : Ref sig .tc := ⟨.hbm, 357, rfl⟩
abbrev main_v244 : Ref sig .tc := ⟨.hbm, 358, rfl⟩
abbrev main_v245 : Ref sig .tc := ⟨.hbm, 359, rfl⟩
abbrev main_v246 : Ref sig .tc := ⟨.hbm, 360, rfl⟩
abbrev main_v247 : Ref sig .tc := ⟨.hbm, 361, rfl⟩
abbrev main_v248 : Ref sig .tc := ⟨.hbm, 362, rfl⟩
abbrev main_v249 : Ref sig .tc := ⟨.hbm, 363, rfl⟩
abbrev main_v250 : Ref sig .tc := ⟨.hbm, 364, rfl⟩
abbrev main_v251 : Ref sig .tc := ⟨.hbm, 365, rfl⟩
abbrev main_v252 : Ref sig .tc := ⟨.hbm, 366, rfl⟩
abbrev main_v253 : Ref sig .tc := ⟨.hbm, 367, rfl⟩
abbrev main_v254 : Ref sig .tc := ⟨.hbm, 368, rfl⟩
abbrev main_v255 : Ref sig .tc := ⟨.hbm, 369, rfl⟩
abbrev main_v256 : Ref sig .tc := ⟨.hbm, 370, rfl⟩
abbrev main_v257 : Ref sig .tc := ⟨.hbm, 371, rfl⟩
abbrev main_v258 : Ref sig .tc := ⟨.hbm, 372, rfl⟩
abbrev main_v259 : Ref sig .tc := ⟨.hbm, 373, rfl⟩
abbrev main_v260 : Ref sig .tc := ⟨.hbm, 374, rfl⟩
abbrev main_v261 : Ref sig .tc := ⟨.hbm, 375, rfl⟩
abbrev main_v262 : Ref sig .tc := ⟨.hbm, 376, rfl⟩
abbrev main_v263 : Ref sig .tc := ⟨.hbm, 377, rfl⟩
abbrev main_v264 : Ref sig .tc := ⟨.hbm, 378, rfl⟩
abbrev main_v265 : Ref sig .tc := ⟨.hbm, 379, rfl⟩
abbrev main_v266 : Ref sig .tc := ⟨.hbm, 380, rfl⟩
abbrev main_v267 : Ref sig .tc := ⟨.hbm, 381, rfl⟩
abbrev main_v268 : Ref sig .tc := ⟨.hbm, 382, rfl⟩
abbrev main_v269 : Ref sig .tc := ⟨.hbm, 383, rfl⟩
abbrev main_v270 : Ref sig .tc := ⟨.hbm, 384, rfl⟩
abbrev main_v271 : Ref sig .tc := ⟨.hbm, 385, rfl⟩
abbrev main_v272 : Ref sig .tc := ⟨.hbm, 386, rfl⟩
abbrev main_v273 : Ref sig .tc := ⟨.hbm, 387, rfl⟩
abbrev main_v274 : Ref sig .tc := ⟨.hbm, 388, rfl⟩
abbrev main_v275 : Ref sig .tc := ⟨.hbm, 389, rfl⟩
abbrev main_v276 : Ref sig .tc := ⟨.hbm, 390, rfl⟩
abbrev main_v277 : Ref sig .tc := ⟨.hbm, 391, rfl⟩
abbrev main_v278 : Ref sig .tc := ⟨.hbm, 392, rfl⟩
abbrev main_v279 : Ref sig .tc := ⟨.hbm, 393, rfl⟩
abbrev main_v280 : Ref sig .tc := ⟨.hbm, 394, rfl⟩
abbrev main_v281 : Ref sig .tc := ⟨.hbm, 395, rfl⟩
abbrev main_v282 : Ref sig .tc := ⟨.hbm, 396, rfl⟩
abbrev main_v283 : Ref sig .tc := ⟨.hbm, 397, rfl⟩
abbrev main_v284 : Ref sig .tc := ⟨.hbm, 398, rfl⟩

abbrev nD : Nat := 1
abbrev τ : Topo := Topo.v7x

variable {F : FTy → Type} [FloatOps F]
-- ==== Proof.K.Template.lean ====
/- The kernel body as a loop. The printed body is one straight line: it loads the coefficients once, then for each of
   the 32 sub-blocks `j` of the output block loads the three coordinate planes and, for each of the 4 channels `c`,
   stores the polynomial's value into the rows `512 j + c, 512 j + c + 4, …` of the output. Here that line is written as
   a recursion over the sub-blocks (`blendBody`), so that a fact about it is proved once for every sub-block and
   channel. Nothing here mentions a particular program: the memory signature and the arithmetic are parameters. -/
module

public import Idealize.ShloMosaic.Lib.Pipeline.FrameBody
public import Idealize.ShloMosaic.Lib.ValueIdxCore
public import Idealize.ShloMosaic.Lib.Tactic

@[expose] public section

noncomputable section

namespace Cert.Blend

open Idealize.ShloMosaic Idealize.ShloMosaic.TcCoe
open Idealize.SL Idealize.SL.Sem

/-- The coordinates' block: 32 sub-blocks of three planes of 128 × 128. -/
abbrev ShX : Shape := ⟨4, ![32, 3, 128, 128]⟩
/-- The coefficients' block: 8 polynomial coefficients of 4 channels. -/
abbrev ShK : Shape := ⟨3, ![1, 8, 4]⟩
/-- The same without the leading axis. -/
abbrev ShK2 : Shape := ⟨2, ![8, 4]⟩
/-- The output block: row `512 j + 4 s + c` is sub-block `j`, plane row `s`, channel `c`. -/
abbrev ShO : Shape := ⟨2, ![16384, 128]⟩
/-- One plane. -/
abbrev ShP : Shape := ⟨2, ![128, 128]⟩
/-- One plane as it is loaded. -/
abbrev ShP4 : Shape := ⟨4, ![1, 1, 128, 128]⟩
/-- One element. -/
abbrev Sh1 : Shape := ⟨2, ![1, 1]⟩

variable {F : FTy → Type} [FloatOps F]

/-- One coefficient is a slice of the table. -/
theorem slices_coef {r c : ℕ} (hr : r < 8) (hc : c < 4) : ShK2.Slices ![r, c] Sh1 :=
  ⟨rfl, fun a => by
    match a with
    | ⟨0, _⟩ => exact (show r + 1 ≤ 8 by omega)
    | ⟨1, _⟩ => exact (show c + 1 ≤ 4 by omega)⟩

/-- The one element of a 1×1 vector. -/
theorem inpos_one : ∀ a, (![0, 0] : Fin 2 → Nat) a < Sh1.size a := by decide
theorem cast_coef : ShK.ShapeCasts ShK2 := by decide
theorem cast_plane : ShP4.ShapeCasts ShP := by decide
theorem pos_plane : 0 < ShP.numel := by decide
theorem pos_plane4 : 0 < ShP4.numel := by decide
theorem pos_coef : 0 < ShK.numel := by decide

/-- Coefficient `r` of channel `c`, as the body reads it. -/
def coef (v1 : FVec F ShK2 .f32) (r c : ℕ) (hr : r < 8) (hc : c < 4) : F .f32 :=
  extractAt ![0, 0] (extractStridedSlice Sh1 ![r, c] v1 (slices_coef hr hc)) inpos_one

/-- A coefficient spread over a plane. -/
def splat (v1 : FVec F ShK2 .f32) (r c : ℕ) (hr : r < 8) (hc : c < 4) : FVec F ShP .f32 :=
  broadcast ShP (coef v1 r c hr hc)

/-- Half the polynomial of channel `c`: `k_a + k_b x + k_d y + k_e (x y)`. -/
def half (v1 : FVec F ShK2 .f32) (x y xy : FVec F ShP .f32) (c : ℕ) (hc : c < 4) (a b d e : ℕ)
    (ha : a < 8) (hb : b < 8) (hd : d < 8) (he : e < 8) : FVec F ShP .f32 :=
  addf (addf (addf (splat v1 a c ha hc) (mulf (splat v1 b c hb hc) x)) (mulf (splat v1 d c hd hc) y))
    (mulf (splat v1 e c he hc) xy)

/-- What channel `c` of a sub-block is: the half without `z` plus `z` times the half with it. -/
def pay (v1 : FVec F ShK2 .f32) (x y z : FVec F ShP .f32) (c : ℕ) (hc : c < 4) : FVec F ShP .f32 :=
  addf (half v1 x y (mulf x y) c hc 0 1 2 4 (by decide) (by decide) (by decide) (by decide))
    (mulf z (half v1 x y (mulf x y) c hc 3 5 6 7 (by decide) (by decide) (by decide) (by decide)))

/-! ## The rectangles -/

/-- Plane `a` of sub-block `j` of the coordinates. -/
abbrev slab (j a : ℕ) (hj : j < 32) (ha : a < 3) : Rect ShX :=
  Rect.unit (s := ShX) ![j, a, 0, 0] ShP4.size (fun b => by
    match b with
    | ⟨0, _⟩ => exact (show j + 1 ≤ 32 by omega)
    | ⟨1, _⟩ => exact (show a + 1 ≤ 3 by omega)
    | ⟨2, _⟩ => exact (show 0 + 128 ≤ 128 by omega)
    | ⟨3, _⟩ => exact (show 0 + 128 ≤ 128 by omega))

/-- All coefficients. -/
abbrev allCoef : Rect ShK :=
  Rect.unit (s := ShK) ![0, 0, 0] ShK.size (by decide)

/-- The rows of channel `c` of sub-block `j`: every fourth row from `512 j + c`. -/
abbrev rows (j c : ℕ) (hj : j < 32) (hc : c < 4) : Rect ShO :=
  ⟨⟨![512 * j + c, 0], ShP.size, ![4, 1], fun a => by
    match a with
    | ⟨0, _⟩ => exact Or.inr (show 512 * j + c + 4 * (128 - 1) < 16384 by omega)
    | ⟨1, _⟩ => exact Or.inr (show 0 + 1 * (128 - 1) < 128 by omega)⟩,
   fun a => by
    match a with
    | ⟨0, _⟩ => exact (show 0 < 4 by omega)
    | ⟨1, _⟩ => exact (show 0 < 1 by omega)⟩

/-! ## The program -/

section Program

variable {nD : Nat} {τ : Topo} {sig : RefSig} {Λ : Labels}

variable (arg1 : Memref sig .tc .vmem ShX .f32) (arg2 : Memref sig .tc .vmem ShK .f32) (arg3 : Memref sig .tc .vmem ShO .f32)

/-- One channel: the load of the rows (its result unused) and the store into them. -/
def storeRows (j c : ℕ) (hj : j < 32) (hc : c < 4) (w : FVec F ShP .f32)
    (k : Prog (TpuEff nD τ sig (Elt F) Λ .tc) PUnit) : Prog (TpuEff nD τ sig (Elt F) Λ .tc) PUnit :=
  .op (.load arg3 (rows j c hj hc).toLoadRect (View.loadsAt_vmem pos_plane)) fun _ =>
    .op (.store arg3 (rows j c hj hc) w Finset.univ (View.stores_vmem_bits_univ pos_plane rfl) (.inl rfl)) fun _ => k

/-- The four channels of a sub-block whose planes are `x`, `y`, `z`. -/
def storeAll (j : ℕ) (hj : j < 32) (v1 : FVec F ShK2 .f32) (x y z : FVec F ShP .f32)
    (k : Prog (TpuEff nD τ sig (Elt F) Λ .tc) PUnit) : Prog (TpuEff nD τ sig (Elt F) Λ .tc) PUnit :=
  storeRows arg3 j 0 hj (by decide) (pay v1 x y z 0 (by decide)) <|
  storeRows arg3 j 1 hj (by decide) (pay v1 x y z 1 (by decide)) <|
  storeRows arg3 j 2 hj (by decide) (pay v1 x y z 2 (by decide)) <|
  storeRows arg3 j 3 hj (by decide) (pay v1 x y z 3 (by decide)) k

/-- A loaded plane without its two leading axes. -/
def plane (v : Vec F ShP4 .f32) : FVec F ShP .f32 := shapeCast ShP v cast_plane

/-- One sub-block: its three planes loaded, its four channels stored. -/
def subBlock (j : ℕ) (hj : j < 32) (v1 : FVec F ShK2 .f32) (k : Prog (TpuEff nD τ sig (Elt F) Λ .tc) PUnit) : Prog (TpuEff nD τ sig (Elt F) Λ .tc) PUnit :=
  .op (.load arg1 (slab j 0 hj (by decide)).toLoadRect (View.loadsAt_vmem pos_plane4)) fun x =>
  .op (.load arg1 (slab j 1 hj (by decide)).toLoadRect (View.loadsAt_vmem pos_plane4)) fun y =>
  .op (.load arg1 (slab j 2 hj (by decide)).toLoadRect (View.loadsAt_vmem pos_plane4)) fun z =>
    storeAll arg3 j hj v1 (plane x) (plane y) (plane z) k

/-- The last `n` sub-blocks, the first of them `j`. -/
def subBlocks (v1 : FVec F ShK2 .f32) : (n j : ℕ) → (h : j + n = 32) → Prog (TpuEff nD τ sig (Elt F) Λ .tc) PUnit
  | 0, _, _ => .ret ⟨⟩
  | n + 1, j, h => subBlock arg1 arg3 j (by omega) v1 (subBlocks v1 n (j + 1) (by omega))

/-- The whole body. -/
def blendBody : Prog (TpuEff nD τ sig (Elt F) Λ .tc) PUnit :=
  .op (.load arg2 allCoef.toLoadRect (View.loadsAt_vmem pos_coef)) fun v0 =>
    subBlocks arg1 arg3 (shapeCast ShK2 v0 cast_coef) 32 0 rfl

end Program

end Cert.Blend

end
-- ==== Proof.K.Values.lean ====
/- What one block of the output holds, as a function of the coordinates' block and the coefficients' block
   (`outBlk`), and what each store of the body does to that: after the stores of the first sub-blocks and channels, the
   rows they name hold `outBlk` (`Done`), whatever the buffer held before. -/
module

public import proofs.«01_k».proof.Proof.K.Template

@[expose] public section

noncomputable section

namespace Cert.Blend

open Idealize.ShloMosaic Idealize.ShloMosaic.TcCoe Idealize.ShloMosaic.ValueIdx
open Idealize.SL Idealize.SL.Sem

variable {F : FTy → Type} [FloatOps F]

/-- The polynomial at one point: coefficients `k`, coordinates `x y z`. -/
def poly (k : ℕ → F .f32) (x y z : F .f32) : F .f32 :=
  FloatOps.addf
    (FloatOps.addf (FloatOps.addf (FloatOps.addf (k 0) (FloatOps.mulf (k 1) x)) (FloatOps.mulf (k 2) y)) (FloatOps.mulf (k 4) (FloatOps.mulf x y)))
    (FloatOps.mulf z
      (FloatOps.addf (FloatOps.addf (FloatOps.addf (k 3) (FloatOps.mulf (k 5) x)) (FloatOps.mulf (k 6) y)) (FloatOps.mulf (k 7) (FloatOps.mulf x y))))

/-- Coefficient `r` of channel `c` in the coefficients' block (row 0 for an `r` out of range, which none is). -/
def coefAt (K : ShK.Idx → F .f32) (c : Fin 4) (r : ℕ) : F .f32 := K (ix3 0 (Fin.ofNat 8 r) c)

/-- The output block: at row `512 j + 4 s + c` and column `l`, the polynomial of channel `c` at the point `(s, l)` of
    sub-block `j`. -/
def outBlk (X : ShX.Idx → F .f32) (K : ShK.Idx → F .f32) : ShO.Idx → F .f32 := fun i =>
  let j : Fin 32 := ⟨(i 0).val / 512, by have : (i 0).val < 16384 := (i 0).isLt; omega⟩
  let s : Fin 128 := ⟨(i 0).val % 512 / 4, by omega⟩
  let c : Fin 4 := ⟨(i 0).val % 4, by omega⟩
  poly (coefAt K c) (X (ix4 j 0 s (i 1))) (X (ix4 j 1 s (i 1))) (X (ix4 j 2 s (i 1)))

/-! ## The body's operands at an index -/

/-- A coefficient the body extracts is the block's. -/
theorem coef_eq (K : ShK.Idx → F .f32) (r c : ℕ) (hr : r < 8) (hc : c < 4) :
    coef (shapeCast ShK2 K cast_coef) r c hr hc = coefAt K ⟨c, hc⟩ r := by
  unfold coef coefAt extractAt extractStridedSlice shapeCast
  refine congrArg K (Shape.reshapeEquiv_eq_of_rowMajor cast_coef ?_)
  rw [Shape.rowMajor_val_three, Shape.rowMajor_val_two]
  show (0 * 8 + r % 8) * 4 + c = (r + 0) * 4 + (c + 0)
  rw [Nat.mod_eq_of_lt hr]; omega

variable {sig : RefSig}

/-- A loaded plane reads the coordinates' block at its sub-block and axis. -/
theorem plane_eq (m : Memref sig .tc .vmem ShX .f32) (f : m.view.ty.Contents (Elt F)) (j a : ℕ) (hj : j < 32) (ha : a < 3)
    (p : ShP.Idx) :
    plane (m.view.readAt (Elt F) (slab j a hj ha).toLoadRect f) p
      = m.view.read (Elt F) f (ix4 ⟨j, hj⟩ ⟨a, ha⟩ (p 0) (p 1)) := by
  unfold plane shapeCast
  rw [View.readAt_apply, Shape.reshapeEquiv_eq_of_rowMajor (y := ix4 0 0 (p 0) (p 1)) cast_plane (by
    rw [Shape.rowMajor_val_four, Shape.rowMajor_val_two]
    show ((0 * 1 + 0) * 128 + (p 0).val) * 128 + (p 1).val = (p 0).val * 128 + (p 1).val
    omega)]
  refine congrArg (m.view.read (Elt F) f) (funext fun b => Fin.ext ?_)
  match b with
  | ⟨0, _⟩ => exact (show j + 1 * 0 = j by omega)
  | ⟨1, _⟩ => exact (show a + 1 * 0 = a by omega)
  | ⟨2, _⟩ => exact (show 0 + 1 * (p 0).val = (p 0).val by omega)
  | ⟨3, _⟩ => exact (show 0 + 1 * (p 1).val = (p 1).val by omega)

/-- What is stored for channel `c` of a sub-block is the polynomial at each of its points. -/
theorem pay_eq (K : ShK.Idx → F .f32) (x y z : FVec F ShP .f32) (c : ℕ) (hc : c < 4) (p : ShP.Idx) :
    pay (shapeCast ShK2 K cast_coef) x y z c hc p = poly (coefAt K ⟨c, hc⟩) (x p) (y p) (z p) := by
  unfold pay half splat
  simp only [coef_eq]
  rfl

/-! ## The stores -/

/-- Rows of the sub-blocks before `j`, and of the channels before `c` of sub-block `j`. -/
def Before (j c : ℕ) (i : ShO.Idx) : Prop := (i 0).val / 512 < j ∨ ((i 0).val / 512 = j ∧ (i 0).val % 4 < c)

/-- The rows before `(j, c)` hold the output block. -/
def Done (X : ShX.Idx → F .f32) (K : ShK.Idx → F .f32) (m : Memref sig .tc .vmem ShO .f32) (j c : ℕ)
    (f : m.view.ty.Contents (Elt F)) : Prop :=
  ∀ i, Before j c i → m.view.read (Elt F) f i = outBlk X K i

/-- At the start nothing is claimed. -/
theorem done_zero (X : ShX.Idx → F .f32) (K : ShK.Idx → F .f32) (m : Memref sig .tc .vmem ShO .f32)
    (f : m.view.ty.Contents (Elt F)) : Done X K m 0 0 f := fun i h => by unfold Before at h; omega

/-- All channels of a sub-block done is the sub-block done. -/
theorem done_next {X : ShX.Idx → F .f32} {K : ShK.Idx → F .f32} {m : Memref sig .tc .vmem ShO .f32} {j : ℕ}
    {f : m.view.ty.Contents (Elt F)} (h : Done X K m j 4 f) : Done X K m (j + 1) 0 f := fun i hi =>
  h i (by unfold Before at hi ⊢; omega)

/-- All sub-blocks done, the memref reads the output block. -/
theorem done_all {X : ShX.Idx → F .f32} {K : ShK.Idx → F .f32} {m : Memref sig .tc .vmem ShO .f32}
    {f : m.view.ty.Contents (Elt F)} (h : Done X K m 32 0 f) : m.view.read (Elt F) f = outBlk X K :=
  funext fun i => h i (by
    have : (i 0).val < 16384 := (i 0).isLt
    exact Or.inl (by omega))

/-- The index of the output block under point `p` of the rows of `(j, c)`. -/
theorem rows_emb_row (j c : ℕ) (hj : j < 32) (hc : c < 4) (p : ShP.Idx) :
    ((rows j c hj hc).emb p 0).val = 512 * j + c + 4 * (p 0).val := rfl

/-- A store into the rows of `(j, c)` of the polynomial at the sub-block's points makes those rows done too. -/
theorem done_store {X : ShX.Idx → F .f32} {K : ShK.Idx → F .f32} {m : Memref sig .tc .vmem ShO .f32} {j c : ℕ}
    (hj : j < 32) (hc : c < 4) {f : m.view.ty.Contents (Elt F)} (h : Done X K m j c f) {w : ShP.Idx → F .f32}
    (hw : ∀ p : ShP.Idx, w p = poly (coefAt K ⟨c, hc⟩) (X (ix4 ⟨j, hj⟩ 0 (p 0) (p 1))) (X (ix4 ⟨j, hj⟩ 1 (p 0) (p 1)))
      (X (ix4 ⟨j, hj⟩ 2 (p 0) (p 1)))) :
    Done X K m j (c + 1) ((m.access (rows j c hj hc)).write (Elt F) f w Finset.univ) := by
  intro i hi
  by_cases hm : i ∈ Finset.univ.map (rows j c hj hc).emb
  · obtain ⟨p, -, rfl⟩ := Finset.mem_map.mp hm
    refine (View.read_slice_write_emb _ _ _ (Finset.mem_univ p)).trans ((hw p).trans ?_)
    have hp : (p 0).val < 128 := (p 0).isLt
    have hr := rows_emb_row j c hj hc p
    have h0 : ((rows j c hj hc).emb p 0).val / 512 = j := by rw [hr]; omega
    have h1 : ((rows j c hj hc).emb p 0).val % 512 / 4 = (p 0).val := by rw [hr]; omega
    have h2 : ((rows j c hj hc).emb p 0).val % 4 = c := by rw [hr]; omega
    have h3 : (rows j c hj hc).emb p 1 = p 1 := Fin.ext (show 0 + 1 * (p 1).val = (p 1).val by omega)
    unfold outBlk
    simp only [h0, h1, h2, h3]
    rfl
  · refine (View.read_slice_write_of_not_mem _ _ _ _ hm).trans (h i ?_)
    unfold Before at hi ⊢
    rcases hi with hi | ⟨hi, hi'⟩
    · exact Or.inl hi
    · refine Or.inr ⟨hi, ?_⟩
      by_contra hne
      have hcc : (i 0).val % 4 = c := by omega
      refine hm (Finset.mem_map.mpr ⟨ix2 ⟨(i 0).val % 512 / 4, by omega⟩ (i 1), Finset.mem_univ _, ?_⟩)
      refine funext fun a => Fin.ext ?_
      match a with
      | ⟨0, _⟩ => exact (show 512 * j + c + 4 * ((i 0).val % 512 / 4) = (i 0).val by omega)
      | ⟨1, _⟩ => exact (show 0 + 1 * (i 1).val = (i 1).val by omega)

end Cert.Blend

end
-- ==== Proof.K.Triple.lean ====
/- The body's specification: from the coordinates' block, the coefficients' block and any contents of the output block,
   the body runs and leaves the two inputs as they were and the output block at `outBlk` of them. By recursion over the
   sub-blocks, each step by the load and the store rule. -/
module

public import proofs.«01_k».proof.Proof.K.Values
public import Idealize.ShloMosaic.Rules.Step
public import Idealize.ShloMosaic.Lib.Memref

@[expose] public section

noncomputable section

namespace Cert.Blend

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
variable {nD : Nat} {τ : Topo} {sig : RefSig} {Λ : Labels} {U : Type} [URA U]

local notation "𝕄" => MT nD τ sig Unit (Elt F) ℕ U ℕ

variable {defs : Defs nD τ sig (Elt F) Λ} (𝒱 : Variants) (c : Dev nD) (bd : Option 𝒱.V) (E : Set ℕ)
variable {arg1 : Memref sig .tc .vmem ShX .f32} {arg2 : Memref sig .tc .vmem ShK .f32} {arg3 : Memref sig .tc .vmem ShO .f32}
variable {X : ShX.Idx → F .f32} {K : ShK.Idx → F .f32}

/-- A memref of the device's core held whole, at the contents `f`. -/
abbrev held {s : Shape} {e : EltTy} (m : Memref sig .tc .vmem s e) (f : m.view.ty.Contents (Elt F)) : sProp 𝕄 :=
  m.view.loc (c : Thread nD τ) ↦[m.view.set]{fullShare} f

/-- What a load reads of a memref lies in the memref. -/
theorem setOn_sub {s : Shape} {e : EltTy} (m : Memref sig .tc .vmem s e) (M : Finset s.Idx) : m.view.setOn M ⊆ m.view.set :=
  m.view.setOn_subset_set M

/-- And so does what a store through a rectangle of it writes. -/
theorem access_sub {s : Shape} {e : EltTy} (m : Memref sig .tc .vmem s e) (r : Rect s) (M : Finset r.shape.Idx) :
    (m.access r).setOn M ⊆ m.view.set := by
  rw [show (m.access r).setOn M = (M.map r.emb).map m.view.emb from (Finset.map_map _ _ _).symm]
  exact setOn_sub m _

/-- One channel's load and store. -/
theorem wp_storeRows (P : sProp 𝕄) (Q : PUnit → sProp 𝕄) (j ch : ℕ) (hj : j < 32) (hc : ch < 4) (w : FVec F ShP .f32)
    (k : Prog (TpuEff nD τ sig (Elt F) Λ .tc) PUnit)
    (hw : ∀ p : ShP.Idx, w p = poly (coefAt K ⟨ch, hc⟩) (X (ix4 ⟨j, hj⟩ 0 (p 0) (p 1))) (X (ix4 ⟨j, hj⟩ 1 (p 0) (p 1)))
      (X (ix4 ⟨j, hj⟩ 2 (p 0) (p 1))))
    (hk : ∀ f, Done X K arg3 j (ch + 1) f → iprop(P ∗ held c arg3 f) ⊢ wp frame (wpE defs 𝒱 (c : Thread nD τ) bd) E k Q)
    (f : arg3.view.ty.Contents (Elt F)) (hf : Done X K arg3 j ch f) :
    iprop(P ∗ held c arg3 f) ⊢ wp frame (wpE defs 𝒱 (c : Thread nD τ) bd) E (storeRows arg3 j ch hj hc w k) Q := by
  unfold storeRows
  iintro ⟨HP, H⟩
  iapply (wp_load 𝒱 (c : Thread nD τ) bd E (setOn_sub arg3 _)) $$ H
  iintro H
  iapply (wp_store 𝒱 (c : Thread nD τ) bd E (m := arg3) (r := rows j ch hj hc) (f := f) (access_sub arg3 _ _)) $$ H
  iintro H
  iapply (hk _ (done_store hj hc hf hw))
  isplitl [HP]
  · iexact HP
  · iexact H

/-- The four channels of a sub-block whose planes are the block's. -/
theorem wp_storeAll (P : sProp 𝕄) (Q : PUnit → sProp 𝕄) (j : ℕ) (hj : j < 32) (x y z : FVec F ShP .f32)
    (k : Prog (TpuEff nD τ sig (Elt F) Λ .tc) PUnit)
    (hx : ∀ p : ShP.Idx, x p = X (ix4 ⟨j, hj⟩ 0 (p 0) (p 1)))
    (hy : ∀ p : ShP.Idx, y p = X (ix4 ⟨j, hj⟩ 1 (p 0) (p 1)))
    (hz : ∀ p : ShP.Idx, z p = X (ix4 ⟨j, hj⟩ 2 (p 0) (p 1)))
    (hk : ∀ f, Done X K arg3 (j + 1) 0 f → iprop(P ∗ held c arg3 f) ⊢ wp frame (wpE defs 𝒱 (c : Thread nD τ) bd) E k Q)
    (f : arg3.view.ty.Contents (Elt F)) (hf : Done X K arg3 j 0 f) :
    iprop(P ∗ held c arg3 f) ⊢ wp frame (wpE defs 𝒱 (c : Thread nD τ) bd) E (storeAll arg3 j hj (shapeCast ShK2 K cast_coef) x y z k) Q := by
  have hw : ∀ (ch : ℕ) (hc : ch < 4) (p : ShP.Idx), pay (shapeCast ShK2 K cast_coef) x y z ch hc p
      = poly (coefAt K ⟨ch, hc⟩) (X (ix4 ⟨j, hj⟩ 0 (p 0) (p 1))) (X (ix4 ⟨j, hj⟩ 1 (p 0) (p 1)))
        (X (ix4 ⟨j, hj⟩ 2 (p 0) (p 1))) := fun ch hc p => by rw [pay_eq, hx, hy, hz]
  unfold storeAll
  refine wp_storeRows 𝒱 c bd E P Q j 0 hj _ _ _ (hw 0 (by decide)) (fun f hf => ?_) f hf
  refine wp_storeRows 𝒱 c bd E P Q j 1 hj _ _ _ (hw 1 (by decide)) (fun f hf => ?_) f hf
  refine wp_storeRows 𝒱 c bd E P Q j 2 hj _ _ _ (hw 2 (by decide)) (fun f hf => ?_) f hf
  exact wp_storeRows 𝒱 c bd E P Q j 3 hj _ _ _ (hw 3 (by decide)) (fun f hf => hk f (done_next hf)) f hf

/-- One sub-block: the planes loaded, the channels stored. -/
theorem wp_subBlock (P : sProp 𝕄) (Q : PUnit → sProp 𝕄) (j : ℕ) (hj : j < 32)
    (k : Prog (TpuEff nD τ sig (Elt F) Λ .tc) PUnit) (f1 : arg1.view.ty.Contents (Elt F))
    (hk : ∀ f, Done (arg1.view.read (Elt F) f1) K arg3 (j + 1) 0 f → iprop((P ∗ held c arg1 f1) ∗ held c arg3 f) ⊢ wp frame (wpE defs 𝒱 (c : Thread nD τ) bd) E k Q)
    (f : arg3.view.ty.Contents (Elt F)) (hf : Done (arg1.view.read (Elt F) f1) K arg3 j 0 f) :
    iprop((P ∗ held c arg1 f1) ∗ held c arg3 f) ⊢ wp frame (wpE defs 𝒱 (c : Thread nD τ) bd) E (subBlock arg1 arg3 j hj (shapeCast ShK2 K cast_coef) k) Q := by
  unfold subBlock
  iintro ⟨⟨HP, H1⟩, H3⟩
  iapply (wp_load 𝒱 (c : Thread nD τ) bd E (setOn_sub arg1 _)) $$ H1
  iintro H1
  iapply (wp_load 𝒱 (c : Thread nD τ) bd E (setOn_sub arg1 _)) $$ H1
  iintro H1
  iapply (wp_load 𝒱 (c : Thread nD τ) bd E (setOn_sub arg1 _)) $$ H1
  iintro H1
  iapply (wp_storeAll 𝒱 c bd E iprop(P ∗ held c arg1 f1) Q j hj _ _ _ k (plane_eq arg1 f1 j 0 hj _)
    (plane_eq arg1 f1 j 1 hj _) (plane_eq arg1 f1 j 2 hj _) hk f hf)
  isplitl [HP H1]
  · isplitl [HP]
    · iexact HP
    · iexact H1
  · iexact H3

/-- The last `n` sub-blocks. -/
theorem wp_subBlocks (P : sProp 𝕄) (Q : PUnit → sProp 𝕄) (f1 : arg1.view.ty.Contents (Elt F))
    (hQ : ∀ f, Done (arg1.view.read (Elt F) f1) K arg3 32 0 f → iprop((P ∗ held c arg1 f1) ∗ held c arg3 f) ⊢ Q ⟨⟩) :
    ∀ (n j : ℕ) (h : j + n = 32) (f : arg3.view.ty.Contents (Elt F)), Done (arg1.view.read (Elt F) f1) K arg3 j 0 f →
      iprop((P ∗ held c arg1 f1) ∗ held c arg3 f) ⊢ wp frame (wpE defs 𝒱 (c : Thread nD τ) bd) E (subBlocks arg1 arg3 (shapeCast ShK2 K cast_coef) n j h) Q
  | 0, j, h, f, hf => by
    obtain rfl : j = 32 := h
    unfold subBlocks
    exact (hQ f hf).trans (le_wp_ret _ _ _ _ Q)
  | n + 1, j, h, f, hf => by
    unfold subBlocks
    exact wp_subBlock 𝒱 c bd E P Q j (by omega) _ f1
      (fun f hf => wp_subBlocks P Q f1 hQ n (j + 1) (by omega) f hf) f hf

/-- THE BODY: the output block ends at `outBlk` of the inputs, which are unchanged. -/
theorem wp_blendBody (X : ShX.Idx → F .f32) (K : ShK.Idx → F .f32) (Q : PUnit → sProp 𝕄) :
    iprop(owns (c : Thread nD τ) arg1 fullShare X ∗ owns (c : Thread nD τ) arg2 fullShare K
        ∗ (∃ d, owns (c : Thread nD τ) arg3 fullShare d)
        ∗ (iprop(owns (c : Thread nD τ) arg1 fullShare X ∗ owns (c : Thread nD τ) arg2 fullShare K
            ∗ owns (c : Thread nD τ) arg3 fullShare (outBlk X K)) -∗ Q ⟨⟩))
      ⊢ wp frame (wpE defs 𝒱 (c : Thread nD τ) bd) E (blendBody arg1 arg2 arg3) Q := by
  unfold blendBody owns
  iintro ⟨⟨%f1, %hf1, H1⟩, ⟨%f2, %hf2, H2⟩, ⟨%d3, %f3, -, H3⟩, Hk⟩
  subst hf1 hf2
  iapply (wp_load 𝒱 (c : Thread nD τ) bd E (setOn_sub arg2 _)) $$ H2
  iintro H2
  rw [show arg2.view.readAt (Elt F) allCoef.toLoadRect f2 = arg2.view.read (Elt F) f2 from
    funext fun i => congrArg (arg2.view.read (Elt F) f2) (funext fun a => Fin.ext (by
      match a with
      | ⟨0, _⟩ => exact (show 0 + 1 * (i 0).val = (i 0).val by omega)
      | ⟨1, _⟩ => exact (show 0 + 1 * (i 1).val = (i 1).val by omega)
      | ⟨2, _⟩ => exact (show 0 + 1 * (i 2).val = (i 2).val by omega)))]
  iapply (wp_subBlocks 𝒱 c bd E iprop((held c arg2 f2)
    ∗ (iprop((∃ f, ⌜arg1.view.read (Elt F) f = arg1.view.read (Elt F) f1⌝ ∗ held c arg1 f)
        ∗ (∃ f, ⌜arg2.view.read (Elt F) f = arg2.view.read (Elt F) f2⌝ ∗ held c arg2 f)
        ∗ (∃ f, ⌜arg3.view.read (Elt F) f = outBlk (arg1.view.read (Elt F) f1) (arg2.view.read (Elt F) f2)⌝ ∗ held c arg3 f)) -∗ Q ⟨⟩))
    Q f1 (fun f hf => ?_) 32 0 rfl f3 (done_zero _ _ _ _))
  · iintro ⟨⟨⟨H2, Hk⟩, H1⟩, H3⟩
    iapply Hk
    isplitl [H1]
    · iexists f1; isplitr; · ipureintro; rfl
      iexact H1
    isplitl [H2]
    · iexists f2; isplitr; · ipureintro; rfl
      iexact H2
    iexists f; isplitr
    · ipureintro; exact done_all hf
    · iexact H3
  · isplitl [H1 H2 Hk]
    · isplitl [H2 Hk]
      · isplitl [H2]
        · iexact H2
        · iexact Hk
      · iexact H1
    · iexact H3

end Cert.Blend

end
-- ==== Proof.K.RunKernelIdeal.lean ====
/- The run of the idealized kernel: its printed body is the loop of Template.lean, so the body's specification of
   Triple.lean is what the pipeline asks of it at every grid point, and @main runs to a state whose output array is
   the output blocks written one after another. -/
module

public import proofs.«01_k».proof.Proof.K.Triple
public import proofs.«01_k».proof.Proof.Gen.KernelIdeal.Frame
public import Idealize.ShloMosaic.Lib.Pipeline.Regions

@[expose] public section

set_option maxRecDepth 65536

noncomputable section

namespace Cert.KernelIdeal.Blend

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body, whatever the grid point, is the loop over its sub-blocks. -/
theorem body_eq (i : grid0.Coords) (arg1 : Memref sig .tc .vmem S32x3x128x128 .f32) (harg1 : arg1.IsWhole)
    (arg2 : Memref sig .tc .vmem S1x8x4 .f32) (harg2 : arg2.IsWhole)
    (arg3 : Memref sig .tc .vmem S16384x128 .f32) (harg3 : arg3.IsWhole) :
    cc0__blend_body (F := F) i arg1 harg1 arg2 harg2 arg3 harg3 = Cert.Blend.blendBody arg1 arg2 arg3 := by
  chain_rfl

/-- The pipeline's data: the arrays as the region finds them, the inputs' blocks left in place, the output's block
    `outBlk` of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => Cert.Blend.outBlk (iblk m c 0 t) (iblk m c 1 t)
  Φ _ := Pipeline.ΦA spec0 c
  q _ := fullShare
  owed _ := 0

/-- The proof's data at each window, read. -/
theorem A_eq (c : Dev nD) (w : Fin cfg0.W) : (dats m 0 c).A w = V m c (Pipeline.arrRef spec0 w) := rfl
theorem after_x (c : Dev nD) (t : Fin cfg0.N) : (dats m 0 c).after 0 t = iblk m c 0 t := by dsimp only [dats]
theorem after_k (c : Dev nD) (t : Fin cfg0.N) : (dats m 0 c).after 1 t = iblk m c 1 t := by dsimp only [dats]
theorem after_out (c : Dev nD) (t : Fin cfg0.N) :
    (dats m 0 c).after 2 t = Cert.Blend.outBlk (iblk m c 0 t) (iblk m c 1 t) := by dsimp only [dats]
theorem before_x (c : Dev nD) (t : Fin cfg0.N) (d) : (dats m 0 c).before 0 t d = iblk m c 0 t :=
  before0_0_of m (dats m 0 c) (A_eq m c 0) (after_x m c) t d
theorem before_k (c : Dev nD) (t : Fin cfg0.N) (d) : (dats m 0 c).before 1 t d = iblk m c 1 t :=
  before0_1_of m (dats m 0 c) (A_eq m c 1) (after_k m c) t d

/-- What the body is entered with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at a point, by the loop's specification. -/
theorem sound_body (c : Dev nD) (t : Fin cfg0.N) :
    bodyPre m c t ⊢ wp frame (wpE (defs₀ (F := F)) Variants.none (c : Thread nD τ) none) Set.univ (bodyAt0 t)
      (fun _ => bodyPost m c t) := by
  unfold bodyPre bodyPost bodyAt0
  rw [body_eq]
  simp only [before_x, before_k]
  rw [show (dats m 0 c).Φ t.succ = (dats m 0 c).Φ t.castSucc from rfl,
    show (dats m 0 c).owesAt () t.succ = (dats m 0 c).owesAt () t.castSucc from rfl, after_x, after_k, after_out]
  iintro ⟨HΦ, Ho, ⟨%d0, H0⟩, ⟨%d1, H1⟩, ⟨%d2, H2⟩⟩
  iapply (Cert.Blend.wp_blendBody Variants.none c none Set.univ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- What the pipeline asks of the body, at every point. -/
theorem body_obligation (c : Dev nD) :
    BodyObligation (dats (F := F) m 0 c) (defs₀ (F := F)) Variants.none () Set.univ := fun t => by
  rw [bigSep_W0, bigSep_W0]
  exact sound_body m c t

set_option backward.isDefEq.respectTransparency.types false in
/-- THE RUN: @main ends with every array of the pipeline as its write-backs left it, every other buffer as the
    operations after the region leave it, and every semaphore at zero. -/
theorem run_main : θ_run defs (onTc (τ := τ) (main (F := F))) (s₀ m ρ) (fun r =>
    Pipeline.FramePost cfgs (dats m) 0 (Pipeline.afterTail₀ cfgs (dats m) 0 (V0 m) [hostOps1]) r
      ∧ r.2.sem = (fun _ => 0)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh)
    (hkeep := sfx_keeps) (hmain := hmain m Variants.none) (hA := fun _ _ => rfl) (hΦ := fun _ _ => rfl)
    (Q' := fun r => Pipeline.FramePost cfgs (dats m) 0 (Pipeline.afterTail₀ cfgs (dats m) 0 (V0 m) [hostOps1]) r
      ∧ r.2.sem = (fun _ => 0))
    (hQ' := fun _ h => h)

/-- @main runs, its arguments end as launched and every semaphore at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
      ⟨((h.1 c).2 main_arg0 (Pipeline.mem_restRefs_of main_arg0 (by decide) (by decide))).trans (W_main_arg0 m (dats m) c),
        ((h.1 c).2 main_arg1 (Pipeline.mem_restRefs_of main_arg1 (by decide) (by decide))).trans (W_main_arg1 m (dats m) c)⟩, h.2⟩)
    (run_main m ρ)

end Cert.KernelIdeal.Blend

end
-- ==== Proof.K.Interp.lean ====
/- The interpolation as the reference writes it, over any float values: the coordinates' components, their floors as
   indices of the knots below and above, the eight gathers of the knots' values, and the three rounds of weighted sums.
   The index arithmetic is read here, element by element: what a component, a weight and a gather hold at an index. -/
module

public import Idealize.ShloMosaic.Lib.ValueIdx
public import Idealize.ShloMosaic.Lib.Pipeline.Value

@[expose] public section

noncomputable section

namespace Cert.Interp

open Idealize.ShloMosaic Idealize.ShloMosaic.ValueIdx

/-- The values' shape: batch, three axes of the grid, channels. -/
abbrev ShV : Shape := ⟨5, ![2, 128, 128, 128, 4]⟩
/-- The coordinates' shape. -/
abbrev ShC : Shape := ⟨5, ![2, 128, 128, 128, 3]⟩
/-- One number per point. -/
abbrev ShB : Shape := ⟨4, ![2, 128, 128, 128]⟩
/-- One number per point, with a unit last axis. -/
abbrev ShU : Shape := ⟨5, ![2, 128, 128, 128, 1]⟩
abbrev Sh0 : Shape := ⟨0, ![]⟩

/-! ## Arrays laid along others -/

section Layout
variable {α : Type}

/-- One number at every point. -/
def everywhere (x : Sh0.Idx → α) : ShB.Idx → α := broadcastInDim ShB ![] (by decide) x
/-- One number at every point, with a unit last axis. -/
def everywhereU (x : Sh0.Idx → α) : ShU.Idx → α := broadcastInDim ShU ![] (by decide) x
/-- A unit last axis added. -/
def column (x : ShB.Idx → α) : ShU.Idx → α := broadcastInDim ShU ![0, 1, 2, 3] (by decide) x
/-- The unit last axis repeated over the channels. -/
def channels (x : ShU.Idx → α) : ShV.Idx → α := broadcastInDim ShV ![0, 1, 2, 3, 4] (by decide) x

/-- Each component is a slice of the coordinates. -/
theorem sliceable (a : Fin 3) : ShC.Slices ![0, 0, 0, 0, a.val] ShU := by
  revert a; decide

/-- One component of the coordinates. -/
def component (a : Fin 3) (x : ShC.Idx → α) : ShB.Idx → α :=
  shapeCast ShB (extractStridedSlice ShU ![0, 0, 0, 0, a.val] x (sliceable a)) (by decide)

variable (n : Fin 2) (d h w : Fin 128)

/-- A unit last axis added, at an index. -/
theorem column_at (x : ShB.Idx → α) (e : Fin 1) : column x (ix5 n d h w e) = x (ix4 n d h w) := by
  refine broadcastInDim_apply _ _ x _ _ fun a => ?_
  match a with
  | ⟨0, _⟩ => rfl
  | ⟨1, _⟩ => rfl
  | ⟨2, _⟩ => rfl
  | ⟨3, _⟩ => rfl

/-- One value spread over the channels, at an index. -/
theorem channels_at (x : ShU.Idx → α) (c : Fin 4) : channels x (ix5 n d h w c) = x (ix5 n d h w 0) := by
  refine broadcastInDim_apply _ _ x _ _ fun a => ?_
  match a with
  | ⟨0, _⟩ => rfl
  | ⟨1, _⟩ => rfl
  | ⟨2, _⟩ => rfl
  | ⟨3, _⟩ => rfl
  | ⟨4, _⟩ => rfl

/-- A component of the coordinates, at an index. -/
theorem component_at (a : Fin 3) (x : ShC.Idx → α) :
    component a x (ix4 n d h w) = x (ix5 n d h w a) := by
  refine (shapeCast_apply _ _ (ix4 n d h w) (ix5 n d h w (0 : Fin 1)) ?_).trans
    (extractStridedSlice_apply _ x (sliceable a) _ (ix5 n d h w a) fun b => ?_)
  · rw [Shape.rowMajor_val_five, Shape.rowMajor_val_four]
    show ((((n.val * 128 + d.val) * 128 + h.val) * 128 + w.val) * 1 + 0) = ((n.val * 128 + d.val) * 128 + h.val) * 128 + w.val
    omega
  · match b with
    | ⟨0, _⟩ => exact (Nat.zero_add _).symm
    | ⟨1, _⟩ => exact (Nat.zero_add _).symm
    | ⟨2, _⟩ => exact (Nat.zero_add _).symm
    | ⟨3, _⟩ => exact (Nat.zero_add _).symm
    | ⟨4, _⟩ => rfl

end Layout

/-! ## The gathers -/

section Knots

/-- An index along an axis of `size` entries, a negative one counted from the axis's end. -/
def wrap (size : BitVec 32) (v : IVec ShB 32) : IVec ShB 32 :=
  select (cmpi .slt v (everywhere (constantI Sh0 32 0#32))) (addi v (everywhere (constantI Sh0 32 size))) v

/-- The number of the batch entry at every point. -/
def batch : IVec ShB 32 :=
  broadcastInDim ShB ![0, 1, 2, 3] (by decide)
    (shapeCast ⟨4, ![2, 1, 1, 1]⟩ (iotaInDim ⟨1, ![2]⟩ 32 0) (by decide))

/-- The gather of whole channel vectors by batch entry and three indices. -/
def knotDims : GatherDims ShV ShV ShV where
  offsetDims := [4]
  collapsedSliceDims := [0, 1, 2, 3]
  operandBatchingDims := []
  startIndicesBatchingDims := []
  startIndexMap := [0, 1, 2, 3]
  indexVectorDim := 4
  sliceSizes := ![1, 1, 1, 1, 4]
  wf := by decide

/-- Four unit columns side by side make four. -/
theorem fourColumns : Shape.Concatenates [ShU, ShU, ShU, ShU] ShV 4 := by decide

/-- The values at the knots whose three indices are given at every point. -/
def knot {α : Type} (x : ShV.Idx → α) (i j k : IVec ShB 32) : ShV.Idx → α :=
  Host.gather knotDims x (concatenate ShV 4
    [⟨ShU, column (wrap 2#32 batch)⟩, ⟨ShU, column (wrap 128#32 i)⟩, ⟨ShU, column (wrap 128#32 j)⟩, ⟨ShU, column (wrap 128#32 k)⟩]
    fourColumns)

/-- No index of an axis reads as negative. -/
theorem not_negative : ∀ p : Fin 128, (BitVec.ofNat 32 p.val).slt 0#32 = false := by decide
/-- The first four axes are the ones the gather's index vector names, in order. -/
theorem named : ∀ (a : Fin 5) (b : Fin 4), a.val = b.val →
    a ∈ ([0, 1, 2, 3] : List (Fin 5)) ∧ ([0, 1, 2, 3] : List (Fin 5)).idxOf a = b.val := by decide
/-- An index of an axis, read as a signed word, is itself. -/
theorem read_signed : ∀ p : Fin 128, (BitVec.ofNat 32 p.val).toInt.toNat = p.val := by decide

variable (n : Fin 2) (d h w : Fin 128)

/-- An index that is one of the axis's own is not wrapped. -/
theorem wrap_at (size : BitVec 32) (v : IVec ShB 32) (l : ShB.Idx) (p : Fin 128) (hv : v l = BitVec.ofNat 32 p.val) :
    wrap size v l = BitVec.ofNat 32 p.val := by
  show (if BitVec.ofBool ((v l).slt 0#32) = 1 then _ else v l) = _
  rw [hv, not_negative]
  rfl

/-- The batch's number, at an index. -/
theorem batch_at : batch (ix4 n d h w) = BitVec.ofNat 32 n.val := by
  refine (broadcastInDim_apply _ _ _ _ (ix4 n (0 : Fin 1) (0 : Fin 1) (0 : Fin 1)) fun a => ?_).trans
    (shapeCast_apply _ _ _ (ix1 n) ?_)
  · match a with
    | ⟨0, _⟩ => rfl
    | ⟨1, _⟩ => rfl
    | ⟨2, _⟩ => rfl
    | ⟨3, _⟩ => rfl
  · rw [Shape.rowMajor_val_one, Shape.rowMajor_val_four]
    show n.val = ((n.val * 1 + 0) * 1 + 0) * 1 + 0
    omega

/-- Four columns side by side, read at one of them. -/
theorem beside_at {α : Type} (f : Fin 4 → ShU.Idx → α) (b : Fin 4) :
    concatenate ShV 4 [⟨ShU, f 0⟩, ⟨ShU, f 1⟩, ⟨ShU, f 2⟩, ⟨ShU, f 3⟩] fourColumns (ix5 n d h w b) = f b (ix5 n d h w 0) := by
  refine concatenate_ofFn_unit_apply (s₁ := ShU) (t := ShV) 4 f fourColumns rfl rfl (ix5 n d h w b) b rfl (ix5 n d h w 0) fun a ha => ?_
  match a, ha with
  | ⟨0, _⟩, _ => rfl
  | ⟨1, _⟩, _ => rfl
  | ⟨2, _⟩, _ => rfl
  | ⟨3, _⟩, _ => rfl
  | ⟨4, _⟩, ha => exact absurd rfl ha

/-- The gather, its four index components at a point being `p`: the operand at `p`, the channel kept. -/
theorem gather_at {α : Type} (x : ShV.Idx → α) (idx : IVec ShV 32) (c : Fin 4) (n' : Fin 2) (p q r : Fin 128)
    (h0 : idx (ix5 n d h w 0) = BitVec.ofNat 32 n'.val) (h1 : idx (ix5 n d h w 1) = BitVec.ofNat 32 p.val)
    (h2 : idx (ix5 n d h w 2) = BitVec.ofNat 32 q.val) (h3 : idx (ix5 n d h w 3) = BitVec.ofNat 32 r.val) :
    Host.gather knotDims x idx (ix5 n d h w c) = x (ix5 n' p q r c) := by
  have along (a : Fin 5) (b : Fin 4) (hab : a.val = b.val) (size : ℕ) (v : Fin 128) (hv : idx (ix5 n d h w b) = BitVec.ofNat 32 v.val)
      (hs : ShV.size a - knotDims.sliceSizes a = size) (hle : v.val ≤ size) :
      knotDims.start (ix5 n d h w c) idx a + 0 + knotDims.offCoord (ix5 n d h w c) a = v.val := by
    have hmem : a ∈ knotDims.startIndexMap := (named a b hab).1
    rw [GatherDims.offCoord_eq_zero _ _ _ fun hk => ((GatherDims.mem_sKept _ _).mp hk).1 (named a b hab).1]
    unfold GatherDims.start
    rw [dif_pos hmem, hs]
    have hsi : knotDims.siIdx (ix5 n d h w c) ⟨knotDims.startIndexMap.idxOf a, List.idxOf_lt_length_iff.2 hmem⟩ = ix5 n d h w b := by
      funext e; refine Fin.ext ?_
      match e with
      | ⟨0, _⟩ => rfl
      | ⟨1, _⟩ => rfl
      | ⟨2, _⟩ => rfl
      | ⟨3, _⟩ => rfl
      | ⟨4, _⟩ => exact (named a b hab).2
    rw [hsi, hv, read_signed]
    exact Nat.min_eq_left hle
  unfold Host.gather
  refine congrArg x (funext fun a => Fin.ext ?_)
  show knotDims.start (ix5 n d h w c) idx a + knotDims.batchCoord (ix5 n d h w c) a + knotDims.offCoord (ix5 n d h w c) a = _
  rw [GatherDims.batchCoord_eq_zero _ _ _ List.not_mem_nil]
  match a with
  | ⟨0, _⟩ => exact along 0 0 rfl 1 ⟨n'.val, by omega⟩ h0 rfl (by show n'.val ≤ 1; omega)
  | ⟨1, _⟩ => exact along 1 1 rfl 127 p h1 rfl (by omega)
  | ⟨2, _⟩ => exact along 2 2 rfl 127 q h2 rfl (by omega)
  | ⟨3, _⟩ => exact along 3 3 rfl 127 r h3 rfl (by omega)
  | ⟨4, _⟩ =>
    have hs : knotDims.start (ix5 n d h w c) idx 4 = 0 := dif_neg (by decide)
    exact (congrArg (· + 0 + c.val) hs).trans (Nat.zero_add _)

/-- The values at the knots, at a point whose indices are `p q r`. -/
theorem knot_at {α : Type} (x : ShV.Idx → α) (i j k : IVec ShB 32) (c : Fin 4) (p q r : Fin 128)
    (hi : i (ix4 n d h w) = BitVec.ofNat 32 p.val) (hj : j (ix4 n d h w) = BitVec.ofNat 32 q.val)
    (hk : k (ix4 n d h w) = BitVec.ofNat 32 r.val) :
    knot x i j k (ix5 n d h w c) = x (ix5 n p q r c) := by
  let f : Fin 4 → ShU.Idx → BitVec 32 :=
    ![column (wrap 2#32 batch), column (wrap 128#32 i), column (wrap 128#32 j), column (wrap 128#32 k)]
  have read (b : Fin 4) (v : IVec ShB 32) (size : BitVec 32) (hf : f b = column (wrap size v)) (u : Fin 128)
      (hv : v (ix4 n d h w) = BitVec.ofNat 32 u.val) :
      concatenate ShV 4 [⟨ShU, f 0⟩, ⟨ShU, f 1⟩, ⟨ShU, f 2⟩, ⟨ShU, f 3⟩] fourColumns (ix5 n d h w b) = BitVec.ofNat 32 u.val := by
    rw [beside_at, hf, column_at, wrap_at size v _ u hv]
  exact gather_at n d h w x _ c n p q r (read 0 batch 2#32 rfl ⟨n.val, by omega⟩ (batch_at n d h w))
    (read 1 i 128#32 rfl p hi) (read 2 j 128#32 rfl q hj) (read 3 k 128#32 rfl r hk)

end Knots

/-! ## The weighted sums -/

section Sums
variable {F : FTy → Type} [FloatOps F]

/-- The number one. -/
def one : Sh0.Idx → F .f32 := constant Sh0 .f32 0x3F800000#32

/-- A float index made an integer one, kept within the axis. -/
def index (f : ShB.Idx → F .f32) : IVec ShB 32 :=
  minsi (everywhere (constantI Sh0 32 127#32)) (maxsi (everywhere (constantI Sh0 32 0#32)) (fptosi 32 f))

/-- The index of the knot below. -/
def below (x : ShB.Idx → F .f32) : IVec ShB 32 := index (Host.floor x)
/-- The index of the knot above. -/
def above (x : ShB.Idx → F .f32) : IVec ShB 32 := index (addf (Host.floor x) (everywhere one))
/-- The weight of the knot above. -/
def upper (x : ShB.Idx → F .f32) : ShU.Idx → F .f32 := column (subf x (Host.floor x))
/-- The weight of the knot below. -/
def lower (x : ShB.Idx → F .f32) : ShU.Idx → F .f32 := subf (everywhereU one) (upper x)

/-- Two arrays of values combined with the weights of one axis. -/
def lerp (x : ShB.Idx → F .f32) (s t : ShV.Idx → F .f32) : ShV.Idx → F .f32 :=
  addf (mulf s (channels (lower x))) (mulf t (channels (upper x)))

/-- The interpolation of the values `v` at the points whose three components are `x y z`. -/
def trilinear (v : ShV.Idx → F .f32) (x y z : ShB.Idx → F .f32) : ShV.Idx → F .f32 :=
  lerp z
    (lerp y (lerp x (knot v (below x) (below y) (below z)) (knot v (above x) (below y) (below z)))
      (lerp x (knot v (below x) (above y) (below z)) (knot v (above x) (above y) (below z))))
    (lerp y (lerp x (knot v (below x) (below y) (above z)) (knot v (above x) (below y) (above z)))
      (lerp x (knot v (below x) (above y) (above z)) (knot v (above x) (above y) (above z))))

end Sums

end Cert.Interp

end
-- ==== Proof.K.RunReference.lean ====
/- The run of the reference: its operations compose to the interpolation of Interp.lean, its arguments end as launched,
   and it has no semaphore. -/
module

public import proofs.«01_k».proof.Proof.K.Interp
public import proofs.«01_k».proof.Proof.Gen.ReferenceIdeal.Run
public import Idealize.ShloMosaic.Lib.Quiescent

@[expose] public section

set_option maxRecDepth 65536

noncomputable section

namespace Cert.ReferenceIdeal.Blend

open Idealize.ShloMosaic Idealize.ShloMosaic.TcCoe Idealize.SL.Sem
open Cert.ReferenceIdeal.Gen

variable {F : FTy → Type} [FloatOps F]

/-- What the reference returns of its two arguments. -/
def result (x0 : Cert.Interp.ShV.Idx → F .f32) (x1 : Cert.Interp.ShC.Idx → F .f32) : Cert.Interp.ShV.Idx → F .f32 :=
  Cert.Interp.trilinear x0 (Cert.Interp.component 0 x1) (Cert.Interp.component 1 x1) (Cert.Interp.component 2 x1)

variable (m : (ℓ : Loc nD τ sig) → Buf (Elt F) ℓ) (ρ : Dev nD → PrngReg)

/-- @main ends with its result at the interpolation of its arguments, and its arguments as launched. -/
theorem run_main : θ_run defs (onTc (τ := τ) (main (F := F))) ⟨m, fun _ => 0, ρ⟩ fun r => ∀ c : Dev nD,
    r.2.mem ((c.tc : Thread nD τ).loc main_v284)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans rfl, (h c).2⟩) (Value.run m ρ)

/-- @main runs, its arguments end as launched and every semaphore at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems rfl r.2⟩) (run_main m ρ)

end Cert.ReferenceIdeal.Blend

end
-- ==== Proof.K.KernelArray.lean ====
/- The kernel's output array after the run, as one function of the two arrays its region reads: the blocks the grid's
   points write tile the array, and each is the polynomial of the coefficients' row of its batch. -/
module

public import proofs.«01_k».proof.Proof.K.RunKernelIdeal
public import Idealize.ShloMosaic.Lib.Pipeline.ValueKit

@[expose] public section

set_option maxRecDepth 65536

noncomputable section

namespace Cert.KernelIdeal.Blend

open Idealize.ShloMosaic Idealize.ShloMosaic.TcCoe
open Idealize.SL.Sem
open Idealize.ShloMosaic.Pipeline (Dat)
open Cert.KernelIdeal Cert.KernelIdeal.Gen

variable {F : FTy → Type} [FloatOps F]

/-- The output array: row `512 j + 4 s + c`, column `l` holds the polynomial of channel `c` at the point `(s, l)` of
    sub-block `j`, with the coefficients of the batch that sub-block lies in (128 sub-blocks to a batch). -/
def outArr (X : S256x3x128x128.Idx → F .f32) (K : S2x8x4.Idx → F .f32) : S131072x128.Idx → F .f32 := fun i =>
  let n : Fin 2 := ⟨(i 0).val / 65536, by have : (i 0).val < 131072 := (i 0).isLt; omega⟩
  let j : Fin 256 := ⟨(i 0).val / 512, by have : (i 0).val < 131072 := (i 0).isLt; omega⟩
  let s : Fin 128 := ⟨(i 0).val % 512 / 4, by omega⟩
  let c : Fin 4 := ⟨(i 0).val % 4, by omega⟩
  Cert.Blend.poly (fun r => K (ValueIdx.ix3 n (Fin.ofNat 8 r) c)) (X (ValueIdx.ix4 j 0 s (i 1))) (X (ValueIdx.ix4 j 1 s (i 1))) (X (ValueIdx.ix4 j 2 s (i 1)))

/-- The blocks the grid's points are given: the coordinates' and the output's follow the point, the coefficients' is
    the batch's. -/
theorem places : ∀ t : Fin cfg0.N, win0_0.index t = ![t.val, 0, 0, 0] ∧ win0_1.index t = ![t.val / 4, 0, 0]
    ∧ win0_2.index t = ![t.val, 0] :=
  (by decide +kernel : ∀ t : Fin grid0.N, _)

/-- A block cut out of the arrays at a point's place, its polynomial is the array's. -/
theorem outBlk_eq_outArr (t : Fin cfg0.N) {Xb : S32x3x128x128.Idx → F .f32} {Kb : S1x8x4.Idx → F .f32}
    {X : S256x3x128x128.Idx → F .f32} {K : S2x8x4.Idx → F .f32}
    (hX : ∀ y i, (i 0).val = t.val * 32 + (y 0).val → (i 1).val = (y 1).val → (i 2).val = (y 2).val →
      (i 3).val = (y 3).val → Xb y = X i)
    (hK : ∀ y i, (i 0).val = t.val / 4 → (i 1).val = (y 1).val → (i 2).val = (y 2).val → Kb y = K i)
    (y : S16384x128.Idx) (i : S131072x128.Idx) (e0 : (i 0).val = t.val * 16384 + (y 0).val)
    (e1 : (i 1).val = (y 1).val) : Cert.Blend.outBlk Xb Kb y = outArr X K i := by
  have hy : (y 0).val < 16384 := (y 0).isLt
  have ej : (i 0).val / 512 = t.val * 32 + (y 0).val / 512 := by omega
  have es : (i 0).val % 512 / 4 = (y 0).val % 512 / 4 := by omega
  have ec : (i 0).val % 4 = (y 0).val % 4 := by omega
  have en : (i 0).val / 65536 = t.val / 4 := by omega
  unfold Cert.Blend.outBlk outArr
  dsimp only
  congr 1
  · exact funext fun r => hK _ _ en rfl ec
  · exact hX _ _ ej rfl es e1
  · exact hX _ _ ej rfl es e1
  · exact hX _ _ ej rfl es e1

variable (m : (ℓ : Loc nD τ sig) → Buf (Elt F) ℓ)

/-- The coordinates' block of a point, at an index. -/
theorem iblk_x (c : Dev nD) (t : Fin cfg0.N) (y : S32x3x128x128.Idx) (i : S256x3x128x128.Idx)
    (h0 : (i 0).val = t.val * 32 + (y 0).val) (h1 : (i 1).val = (y 1).val) (h2 : (i 2).val = (y 2).val)
    (h3 : (i 3).val = (y 3).val) :
    (iblk m c 0 t : S32x3x128x128.Idx → F .f32) y = (V m c main_v46 : S256x3x128x128.Idx → F .f32) i := by
  blk_ext [iblk, places t]

/-- The coefficients' block of a point, at an index. -/
theorem iblk_k (c : Dev nD) (t : Fin cfg0.N) (y : S1x8x4.Idx) (i : S2x8x4.Idx) (h0 : (i 0).val = t.val / 4)
    (h1 : (i 1).val = (y 1).val) (h2 : (i 2).val = (y 2).val) :
    (iblk m c 1 t : S1x8x4.Idx → F .f32) y = (V m c main_v44 : S2x8x4.Idx → F .f32) i := by
  blk_ext [iblk, places t]

/-- What the region leaves in its output array. -/
theorem final (c : Dev nD) : (dats m 0 c).arrAt 2 cfg0.N = outArr (V m c main_v46) (V m c main_v44) := by
  refine (dats m 0 c).arrAt_eq_of_covers 2 _ (by decide +kernel) fun t hf y => ?_
  have e0 : ((((cfg0.win 2).blk t).view.emb y) 0 : ℕ) = t.val * 16384 + (y 0).val := by blk_simp [places t]
  have e1 : ((((cfg0.win 2).blk t).view.emb y) 1 : ℕ) = (y 1).val := by blk_simp [places t]
  blk_simp
  rw [after_out]
  generalize ((cfg0.win 2).blk t).view.emb y = i at e0 e1 ⊢
  exact outBlk_eq_outArr t (iblk_x m c t) (iblk_k m c t) y i e0 e1

end Cert.KernelIdeal.Blend

end
-- ==== Proof.K.Equation.lean ====
/- The mathematics of the certificate, over the extended reals: where the eight corners and the three coordinates are
   finite, the kernel's polynomial in the coordinates is the reference's three rounds of weighted sums. -/
module

public import proofs.«01_k».proof.Proof.K.Values
public import Idealize.ShloMosaic.Lib.IdealHost

@[expose] public section

noncomputable section

namespace Cert.Equation

open Idealize.ShloMosaic

/-- One round of weighted sums. -/
def mix (x s t : EReal) : EReal := s * (1 - x) + t * x

/-- Three rounds: the corners `s` combined along the first axis, then the second, then the third. -/
def blend (s : Bool → Bool → Bool → EReal) (x y z : EReal) : EReal :=
  mix z (mix y (mix x (s false false false) (s true false false)) (mix x (s false true false) (s true true false)))
    (mix y (mix x (s false false true) (s true false true)) (mix x (s false true true) (s true true true)))

/-- The kernel's coefficients, as it computes them from the corners: the constant one, the three of one coordinate, the
    three of two, and the one of all three. -/
def coefficient (s : Bool → Bool → Bool → EReal) : ℕ → EReal
  | 0 => s false false false
  | 1 => s true false false - s false false false
  | 2 => s false true false - s false false false
  | 3 => s false false true - s false false false
  | 4 => s true true false - s true false false - s false true false + s false false false
  | 5 => s true false true - s true false false - s false false true + s false false false
  | 6 => s false true true - s false true false - s false false true + s false false false
  | _ => s true true true - s true true false - s true false true - s false true true + s true false false
      + s false true false + s false false true - s false false false

/-- The polynomial is the weighted sums. -/
theorem poly_eq_blend (s : Bool → Bool → Bool → EReal) (hs : ∀ p q r, ∃ v : ℝ, s p q r = v) (x y z : ℝ) :
    Cert.Blend.poly (F := Ideal) (coefficient s) (x : EReal) (y : EReal) (z : EReal) = blend s x y z := by
  choose v hv using hs
  simp only [Cert.Blend.poly, coefficient, blend, mix, hv]
  show (_ : EReal) = _
  simp only [Ideal.addf_def, Ideal.mulf_def]
  norm_cast
  ring

end Cert.Equation

end
-- ==== Proof.K.RefValue.lean ====
/- The reference's interpolation read at an index, over the extended reals, where the point's three coordinates lie in
   [0, 1): the knot below is entry 0 of every axis, the knot above entry 1, and the weights are the coordinate and what
   it leaves of one. -/
module

public import proofs.«01_k».proof.Proof.K.Interp
public import proofs.«01_k».proof.Proof.K.Equation

@[expose] public section

noncomputable section

namespace Cert.Interp

open Idealize.ShloMosaic Idealize.ShloMosaic.ValueIdx

/-- Entry 0 or 1 of an axis. -/
def entry : Bool → Fin 128
  | false => 0
  | true => 1

/-- The corners of the grid's first cell, for one batch entry and channel. -/
def corner (v : ShV.Idx → EReal) (n : Fin 2) (c : Fin 4) (p q r : Bool) : EReal :=
  v (ix5 n (entry p) (entry q) (entry r) c)

/-- Of a number in [0, 1) the floor is zero. -/
theorem floor_eq_zero (x : ℝ) (h : 0 ≤ x ∧ x < 1) : Ideal.liftRound Int.floor (x : EReal) = 0 := by
  rw [Ideal.liftRound_coe, Int.floor_eq_zero_iff.2 h]
  norm_num

/-- The index below, of a floor of zero. -/
theorem index_zero : IntOp.minsi 127#32 (IntOp.maxsi 0#32 (Ideal.fptosi 32 0)) = 0#32 := by
  have : Ideal.fptosi 32 ((0 : ℝ) : EReal) = 0#32 := by rw [Ideal.fptosi, Ideal.toIntClamped_coe]; norm_num
  rw [EReal.coe_zero] at this
  rw [this]; decide

/-- The index above, of a floor of zero. -/
theorem index_one : IntOp.minsi 127#32 (IntOp.maxsi 0#32 (Ideal.fptosi 32 (0 + 1))) = 1#32 := by
  have : Ideal.fptosi 32 ((1 : ℝ) : EReal) = 1#32 := by rw [Ideal.fptosi, Ideal.toIntClamped_coe]; norm_num
  rw [EReal.coe_one] at this
  rw [zero_add, this]; decide

section Point
variable (n : Fin 2) (d h w : Fin 128) (x : ShB.Idx → EReal) (X : ℝ) (hX : 0 ≤ X ∧ X < 1) (hx : x (ix4 n d h w) = X)
include hX hx

/-- The knot below a coordinate of [0, 1) is entry 0. -/
theorem below_at : below (F := Ideal) x (ix4 n d h w) = 0#32 := by
  show IntOp.minsi 127#32 (IntOp.maxsi 0#32 (Ideal.fptosi 32 (Ideal.liftRound Int.floor (x (ix4 n d h w))))) = _
  rw [hx, floor_eq_zero X hX, index_zero]

/-- The knot above it is entry 1. -/
theorem above_at : above (F := Ideal) x (ix4 n d h w) = 1#32 := by
  show IntOp.minsi 127#32 (IntOp.maxsi 0#32
    (Ideal.fptosi 32 (Ideal.liftRound Int.floor (x (ix4 n d h w)) + Ideal.ofBits .f32 0x3F800000#32))) = _
  rw [hx, floor_eq_zero X hX, Ideal.ofBits_one_f32, index_one]

/-- The knots' index on one axis: the knot above for `true`, the knot below for `false`. -/
theorem near_at (b : Bool) : (bif b then above (F := Ideal) x else below (F := Ideal) x) (ix4 n d h w) = BitVec.ofNat 32 (entry b).val := by
  cases b
  · exact below_at n d h w x X hX hx
  · exact above_at n d h w x X hX hx

/-- The weight of the knot above is the coordinate itself. -/
theorem upper_at (e : Fin 1) : upper (F := Ideal) x (ix5 n d h w e) = X := by
  refine (column_at n d h w _ e).trans ?_
  show x (ix4 n d h w) - Ideal.liftRound Int.floor (x (ix4 n d h w)) = _
  rw [hx, floor_eq_zero X hX, sub_zero]

/-- One round of weighted sums at a point. -/
theorem lerp_at (s t : ShV.Idx → EReal) (c : Fin 4) :
    lerp (F := Ideal) x s t (ix5 n d h w c) = Cert.Equation.mix X (s (ix5 n d h w c)) (t (ix5 n d h w c)) := by
  show s (ix5 n d h w c) * channels (lower (F := Ideal) x) (ix5 n d h w c)
    + t (ix5 n d h w c) * channels (upper (F := Ideal) x) (ix5 n d h w c) = _
  rw [channels_at, channels_at, upper_at n d h w x X hX hx]
  show _ * (Ideal.ofBits .f32 0x3F800000#32 - upper (F := Ideal) x (ix5 n d h w 0)) + _ = _
  rw [upper_at n d h w x X hX hx, Ideal.ofBits_one_f32]
  rfl

end Point

/-- The interpolation at a point of [0, 1)³: the corners of the grid's first cell blended. -/
theorem trilinear_at (v : ShV.Idx → EReal) (x y z : ShB.Idx → EReal) (n : Fin 2) (d h w : Fin 128) (c : Fin 4) (X Y Z : ℝ)
    (hX : 0 ≤ X ∧ X < 1) (hY : 0 ≤ Y ∧ Y < 1) (hZ : 0 ≤ Z ∧ Z < 1)
    (hx : x (ix4 n d h w) = X) (hy : y (ix4 n d h w) = Y) (hz : z (ix4 n d h w) = Z) :
    trilinear (F := Ideal) v x y z (ix5 n d h w c) = Cert.Equation.blend (corner v n c) X Y Z := by
  have read (p q r : Bool) : knot v (bif p then above (F := Ideal) x else below (F := Ideal) x)
      (bif q then above (F := Ideal) y else below (F := Ideal) y) (bif r then above (F := Ideal) z else below (F := Ideal) z) (ix5 n d h w c)
        = corner v n c p q r :=
    knot_at n d h w v _ _ _ c (entry p) (entry q) (entry r) (near_at n d h w x X hX hx p) (near_at n d h w y Y hY hy q)
      (near_at n d h w z Z hZ hz r)
  unfold trilinear Cert.Equation.blend
  simp only [lerp_at n d h w x X hX hx, lerp_at n d h w y Y hY hy, lerp_at n d h w z Z hZ hz, ← read, cond_true, cond_false]

end Cert.Interp

end
-- ==== Proof.K.KernelHost.lean ====
/- The two arrays the kernel's region reads, as the host operations before it make them: the coordinates with the axis
   of the three components moved before the plane, and the table of the polynomial's coefficients. -/
module

public import proofs.«01_k».proof.Proof.K.KernelArray
public import proofs.«01_k».proof.Proof.K.Equation
public import proofs.«01_k».proof.Proof.K.RefValue
public import Idealize.ShloMosaic.Lib.Claim

@[expose] public section

set_option maxRecDepth 65536

noncomputable section

namespace Cert.KernelIdeal.Blend

open Idealize.ShloMosaic Idealize.ShloMosaic.TcCoe
open Idealize.SL.Sem
open Cert.KernelIdeal Cert.KernelIdeal.Gen

variable {F : FTy → Type} [FloatOps F]

/-! ## What the host operations compute -/

/-- The coordinates as the region reads them. -/
def planes (x : S2x128x128x128x3.Idx → F .f32) : S256x3x128x128.Idx → F .f32 :=
  shapeCast S256x3x128x128 (transpose S2x128x3x128x128 [0, 1, 4, 2, 3] x transposes_S2x128x128x128x3_S2x128x3x128x128_0_1_4_2_3)
    shapeCasts_S2x128x3x128x128_S256x3x128x128

/-- Each corner is a slice of the 2×2×2 block. -/
theorem slices_corner : ∀ p q r : Bool, S2x2x2x2x4.Slices ![0, p.toNat, q.toNat, r.toNat, 0] S2x1x1x1x4 := by decide

/-- One corner of the unit cube, all batches and channels: 1 for `true`, 0 for `false`. -/
def cornerRow (v : S2x128x128x128x4.Idx → F .f32) (p q r : Bool) : FVec F S2x4 .f32 :=
  shapeCast S2x4
    (extractStridedSlice S2x1x1x1x4 ![0, p.toNat, q.toNat, r.toNat, 0]
      (extractStridedSlice S2x2x2x2x4 ![0, 0, 0, 0, 0] v slices_S2x128x128x128x4_S2x2x2x2x4_0_0_0_0_0) (slices_corner p q r))
    shapeCasts_S2x1x1x1x4_S2x4

/-- The coefficients of the polynomial, all batches and channels, from the corners `s`. -/
def rowOf (s : Bool → Bool → Bool → FVec F S2x4 .f32) : Fin 8 → FVec F S2x4 .f32
  | 0 => s false false false
  | 1 => subf (s true false false) (s false false false)
  | 2 => subf (s false true false) (s false false false)
  | 3 => subf (s false false true) (s false false false)
  | 4 => addf (subf (subf (s true true false) (s true false false)) (s false true false)) (s false false false)
  | 5 => addf (subf (subf (s true false true) (s true false false)) (s false false true)) (s false false false)
  | 6 => addf (subf (subf (s false true true) (s false true false)) (s false false true)) (s false false false)
  | 7 => subf (addf (addf (addf (subf (subf (subf (s true true true) (s true true false)) (s true false true))
      (s false true true)) (s true false false)) (s false true false)) (s false false true)) (s false false false)

/-- The table of coefficients as the region reads it. -/
def table (v : S2x128x128x128x4.Idx → F .f32) : S2x8x4.Idx → F .f32 :=
  concatenate S2x8x4 1
    (List.ofFn fun r : Fin 8 => ⟨S2x1x4, broadcastInDim S2x1x4 ![0, 2] bcast_S2x4_S2x1x4_0_2 (rowOf (cornerRow v) r)⟩)
    concatenates_S2x1x4_S2x1x4_S2x1x4_S2x1x4_S2x1x4_S2x1x4_S2x1x4_S2x1x4_S2x8x4_d1

variable (m : (ℓ : Loc nD τ sig) → Buf (Elt F) ℓ)

/-- The region's first operand holds the coordinates so laid out. -/
theorem planes_eq (c : Dev nD) : V m c main_v46 = planes (m ((c.tc : Thread nD τ).loc main_arg1)) := by
  entry_read
  rfl

set_option maxHeartbeats 1600000 in
/-- The region's second operand holds the table. -/
theorem table_eq (c : Dev nD) : V m c main_v44 = table (m ((c.tc : Thread nD τ).loc main_arg0)) := by
  show StableHlo.after [hostOps0].flatten _ _ = _
  rw [List.flatten_singleton]
  after_results
  dsimp only [Matrix.cons_val]
  after_results_loop
  rfl

/-! ## The same at an index -/

/-- Plane `a` of sub-block `128 n + d` is component `a` of the coordinates at slice `d` of batch `n`. -/
theorem planes_at (x : S2x128x128x128x3.Idx → F .f32) (n : Fin 2) (d h w : Fin 128) (a : Fin 3) (j : Fin 256)
    (hj : j.val = n.val * 128 + d.val) :
    planes x (ValueIdx.ix4 j a h w) = x (ValueIdx.ix5 n d h w a) := by
  unfold planes
  rw [shapeCast_apply _ _ (ValueIdx.ix4 j a h w) (ValueIdx.ix5 n d a h w) (by
    rw [Shape.rowMajor_val_five, Shape.rowMajor_val_four]
    show (((n.val * 128 + d.val) * 3 + a.val) * 128 + h.val) * 128 + w.val = ((j.val * 3 + a.val) * 128 + h.val) * 128 + w.val
    rw [hj])]
  refine transpose_apply _ _ _ _ (ValueIdx.ix5 n d h w a) fun b => ?_
  match b with
  | ⟨0, _⟩ => rfl
  | ⟨1, _⟩ => rfl
  | ⟨2, _⟩ => rfl
  | ⟨3, _⟩ => rfl
  | ⟨4, _⟩ => rfl

/-- A row of corners reads the corner. -/
theorem cornerRow_at (v : S2x128x128x128x4.Idx → EReal) (p q r : Bool) (n : Fin 2) (c : Fin 4) :
    cornerRow (F := Ideal) v p q r (ValueIdx.ix2 n c) = Cert.Interp.corner v n c p q r := by
  unfold cornerRow
  rw [shapeCast_apply _ _ (ValueIdx.ix2 n c) (ValueIdx.ix5 n 0 0 0 c) (by
    rw [Shape.rowMajor_val_five, Shape.rowMajor_val_two]
    show (((n.val * 1 + 0) * 1 + 0) * 1 + 0) * 4 + c.val = n.val * 4 + c.val
    omega)]
  let half : Bool → Fin 2 := fun b => if b then 1 else 0
  refine (extractStridedSlice_apply _ _ _ _ (ValueIdx.ix5 n (half p) (half q) (half r) c) fun b => ?_).trans
    (extractStridedSlice_apply _ _ _ _ (ValueIdx.ix5 n (Cert.Interp.entry p) (Cert.Interp.entry q) (Cert.Interp.entry r) c) fun b => ?_)
  · match b with
    | ⟨0, _⟩ => exact (Nat.zero_add _).symm
    | ⟨1, _⟩ => cases p <;> rfl
    | ⟨2, _⟩ => cases q <;> rfl
    | ⟨3, _⟩ => cases r <;> rfl
    | ⟨4, _⟩ => exact (Nat.zero_add _).symm
  · match b with
    | ⟨0, _⟩ => exact (Nat.zero_add _).symm
    | ⟨1, _⟩ => cases p <;> rfl
    | ⟨2, _⟩ => cases q <;> rfl
    | ⟨3, _⟩ => cases r <;> rfl
    | ⟨4, _⟩ => exact (Nat.zero_add _).symm

/-- A row of coefficients is the coefficient of the corners there. -/
theorem rowOf_at (v : S2x128x128x128x4.Idx → EReal) (n : Fin 2) (r : Fin 8) (c : Fin 4) :
    rowOf (F := Ideal) (cornerRow v) r (ValueIdx.ix2 n c) = Cert.Equation.coefficient (Cert.Interp.corner v n c) r.val := by
  have e : Cert.Interp.corner v n c = fun p q r => cornerRow (F := Ideal) v p q r (ValueIdx.ix2 n c) :=
    funext fun p => funext fun q => funext fun r => (cornerRow_at v p q r n c).symm
  rw [e]
  match r with
  | 0 | 1 | 2 | 3 | 4 | 5 | 6 | 7 => rfl

/-- The table's row `r` holds coefficient `r`. -/
theorem table_at (v : S2x128x128x128x4.Idx → EReal) (n : Fin 2) (r : Fin 8) (c : Fin 4) :
    table (F := Ideal) v (ValueIdx.ix3 n r c) = Cert.Equation.coefficient (Cert.Interp.corner v n c) r.val := by
  unfold table
  refine (concatenate_ofFn_unit_apply (t := S2x8x4) (s₁ := S2x1x4) 1 _ _ rfl rfl (ValueIdx.ix3 n r c) r rfl (ValueIdx.ix3 n 0 c) fun b hb => ?_).trans ?_
  · match b with
    | ⟨0, _⟩ => rfl
    | ⟨1, _⟩ => exact absurd rfl hb
    | ⟨2, _⟩ => rfl
  refine (broadcastInDim_apply _ _ _ _ (ValueIdx.ix2 n c) fun a => ?_).trans (rowOf_at v n r c)
  match a with
  | ⟨0, _⟩ => rfl
  | ⟨1, _⟩ => rfl

end Cert.KernelIdeal.Blend

end
-- ==== Proof.K.Pre.lean ====
/- What the precondition says of the two arguments, over the extended reals: every coordinate is a real number in [0, 1),
   and the values at the corners of the grid's first cell are real numbers. -/
module

public import proofs.«01_k».proof.Proof.K.RefValue
public import proofs.«01_k».proof.Proof.Gen.Pre_in_cube
public import Idealize.ShloMosaic.Lib.ReduceAll

@[expose] public section

noncomputable section

namespace Cert.Pre_in_cube.Blend

open Idealize.ShloMosaic Idealize.ShloMosaic.ValueIdx Cert.Interp
open Cert.Pre_in_cube.Gen

instance : Subsingleton S_.Idx := ⟨fun _ _ => funext fun a => a.elim0⟩

/-- A one-bit word made of a Boolean is one only of `true`. -/
theorem ofBool_eq_one (b : Bool) (h : BitVec.ofBool b = 1#1) : b = true := by
  revert h; cases b <;> decide

/-- The word of infinity is infinity. -/
theorem infinity : Ideal.ofBits .f32 0x7F800000#32 = ⊤ := by
  simp [Ideal.ofBits, Ideal.ieee]

/-- A number from zero on and below one is a real number of [0, 1). -/
theorem real_of_mem (x : EReal) (h0 : 0 ≤ x) (h1 : x < 1) : ∃ X : ℝ, (0 ≤ X ∧ X < 1) ∧ x = X := by
  lift x to ℝ using ⟨(h1.trans (by exact_mod_cast EReal.coe_lt_top 1)).ne, (lt_of_lt_of_le EReal.bot_lt_zero h0).ne'⟩
  exact ⟨x, ⟨by exact_mod_cast h0, by exact_mod_cast h1⟩, rfl⟩

/-- A number whose absolute value is below infinity is a real number. -/
theorem real_of_abs (x : EReal) (h : max x (-x) < ⊤) : ∃ X : ℝ, x = X := by
  induction x with
  | bot => simp at h
  | top => simp at h
  | coe X => exact ⟨X, rfl⟩

variable (v : ShV.Idx → EReal) (x : ShC.Idx → EReal) (h : fn (F := Ideal) v x = fun _ => 1#1)
include h

/-- Every coordinate is a real number in [0, 1). -/
theorem coords_real (i : ShC.Idx) : ∃ X : ℝ, (0 ≤ X ∧ X < 1) ∧ x i = X := by
  have h2 := (IntOp.andi_eq_one.1 (congrFun h ix0)).1
  have h3 := IntOp.andi_eq_one.1 (Host.reduce_andi_all _ _ _ _ _ h2 i)
  have h4 : Ideal.ofBits .f32 0x00000000#32 ≤ x i := of_decide_eq_true (ofBool_eq_one _ h3.1)
  have h5 : x i < Ideal.ofBits .f32 0x3F800000#32 := of_decide_eq_true (ofBool_eq_one _ h3.2)
  rw [Ideal.ofBits_zero_f32] at h4
  rw [Ideal.ofBits_one_f32] at h5
  exact real_of_mem _ h4 h5

/-- The corners of the grid's first cell are real numbers. -/
theorem corner_real (n : Fin 2) (c : Fin 4) (p q r : Bool) : ∃ X : ℝ, corner v n c p q r = X := by
  have h2 := (IntOp.andi_eq_one.1 (congrFun h ix0)).2
  let half : Bool → Fin 2 := fun b => if b then 1 else 0
  have h3 := Host.reduce_andi_all _ _ _ _ _ h2 (ix5 n (half p) (half q) (half r) c)
  have h4 : max (extractStridedSlice S2x2x2x2x4 ![0, 0, 0, 0, 0] v _ (ix5 n (half p) (half q) (half r) c))
      (-extractStridedSlice S2x2x2x2x4 ![0, 0, 0, 0, 0] v _ (ix5 n (half p) (half q) (half r) c)) < Ideal.ofBits .f32 0x7F800000#32 :=
      of_decide_eq_true (ofBool_eq_one _ h3)
  rw [infinity, extractStridedSlice_apply _ v _ _ (ix5 n (entry p) (entry q) (entry r) c) fun a => ?_] at h4
  · exact real_of_abs _ h4
  · match a with
    | ⟨0, _⟩ => exact (Nat.zero_add _).symm
    | ⟨1, _⟩ => cases p <;> rfl
    | ⟨2, _⟩ => cases q <;> rfl
    | ⟨3, _⟩ => cases r <;> rfl
    | ⟨4, _⟩ => exact (Nat.zero_add _).symm

end Cert.Pre_in_cube.Blend

end
-- ==== Proof.K.KernelValue.lean ====
/- The result of the idealized kernel: the region's output array moved back to the reference's layout. Where the
   precondition holds it is the reference's result. -/
module

public import proofs.«01_k».proof.Proof.K.KernelHost
public import proofs.«01_k».proof.Proof.K.RunReference
public import proofs.«01_k».proof.Proof.K.Pre

@[expose] public section

set_option maxRecDepth 65536

noncomputable section

namespace Cert.KernelIdeal.Blend

open Idealize.ShloMosaic Idealize.ShloMosaic.TcCoe
open Idealize.SL.Sem
open Cert.KernelIdeal Cert.KernelIdeal.Gen

variable {F : FTy → Type} [FloatOps F]

/-- The region's output array in the layout the kernel returns. -/
def back (Y : S131072x128.Idx → F .f32) : S2x128x128x128x4.Idx → F .f32 :=
  transpose S2x128x128x128x4 [0, 1, 2, 4, 3] (shapeCast S2x128x128x4x128 Y shapeCasts_S131072x128_S2x128x128x4x128)
    transposes_S2x128x128x4x128_S2x128x128x128x4_0_1_2_4_3

/-- Where an element of the result comes from. -/
theorem back_at (Y : S131072x128.Idx → F .f32) (n : Fin 2) (d h w : Fin 128) (c : Fin 4) (R : Fin 131072)
    (hR : R.val = ((n.val * 128 + d.val) * 128 + h.val) * 4 + c.val) :
    back Y (ValueIdx.ix5 n d h w c) = Y (ValueIdx.ix2 R w) := by
  unfold back
  refine (transpose_apply _ _ _ _ (ValueIdx.ix5 n d h c w) fun b => ?_).trans (shapeCast_apply _ _ _ (ValueIdx.ix2 R w) ?_)
  · match b with
    | ⟨0, _⟩ => rfl
    | ⟨1, _⟩ => rfl
    | ⟨2, _⟩ => rfl
    | ⟨3, _⟩ => rfl
    | ⟨4, _⟩ => rfl
  · rw [Shape.rowMajor_val_two, Shape.rowMajor_val_five]
    show R.val * 128 + w.val = (((n.val * 128 + d.val) * 128 + h.val) * 4 + c.val) * 128 + w.val
    rw [hR]

/-- The output array at the row of channel `c` of a point: the polynomial there. -/
theorem outArr_at (X : S256x3x128x128.Idx → F .f32) (K : S2x8x4.Idx → F .f32) (n : Fin 2) (d h w : Fin 128) (c : Fin 4)
    (R : Fin 131072) (hR : R.val = ((n.val * 128 + d.val) * 128 + h.val) * 4 + c.val) (j : Fin 256)
    (hj : j.val = n.val * 128 + d.val) :
    outArr X K (ValueIdx.ix2 R w) = Cert.Blend.poly (fun r => K (ValueIdx.ix3 n (Fin.ofNat 8 r) c))
      (X (ValueIdx.ix4 j 0 h w)) (X (ValueIdx.ix4 j 1 h w)) (X (ValueIdx.ix4 j 2 h w)) := by
  have en : R.val / 65536 = n.val := by omega
  have ej : R.val / 512 = j.val := by omega
  have es : R.val % 512 / 4 = h.val := by omega
  have ec : R.val % 4 = c.val := by omega
  show Cert.Blend.poly (fun r => K (ValueIdx.ix3 ⟨R.val / 65536, _⟩ (Fin.ofNat 8 r) ⟨R.val % 4, _⟩))
    (X (ValueIdx.ix4 ⟨R.val / 512, _⟩ 0 ⟨R.val % 512 / 4, _⟩ w)) (X (ValueIdx.ix4 ⟨R.val / 512, _⟩ 1 ⟨R.val % 512 / 4, _⟩ w))
    (X (ValueIdx.ix4 ⟨R.val / 512, _⟩ 2 ⟨R.val % 512 / 4, _⟩ w)) = _
  simp only [en, ej, es, ec]

/-- The result of the kernel as a function of its two arguments. -/
def result (v : S2x128x128x128x4.Idx → F .f32) (x : S2x128x128x128x3.Idx → F .f32) : S2x128x128x128x4.Idx → F .f32 :=
  back (outArr (planes x) (table v))

variable (m : (ℓ : Loc nD τ sig) → Buf (Elt F) ℓ) (ρ : Dev nD → PrngReg)

/-- What @main's last operations leave in its result. -/
theorem tail_eq (c : Dev nD) : Pipeline.afterTail₀ cfgs (dats m) 0 (V0 m) [hostOps1] c main_v49
    = result (m ((c.tc : Thread nD τ).loc main_arg0)) (m ((c.tc : Thread nD τ).loc main_arg1)) := by
  unfold result
  rw [← planes_eq, ← table_eq, ← final]
  show StableHlo.after [hostOps1].flatten _ _ = _
  rw [List.flatten_singleton]
  after_results
  have hv : Pipeline.withArrays (cfgs 0).spec c (V0 m c) (fun w => (dats m 0 c).arrAt w (cfgs 0).N) (Proc.devRef .tc main_v47)
      = (dats m 0 c).arrAt 2 cfg0.N :=
    Pipeline.withArrays_arr spec0 (by decide) c (V0 m c) (fun w => (dats m 0 c).arrAt w cfg0.N) 2
  rw [hv]
  rfl

/-- @main ends with its result at `result` of its arguments, and its arguments as launched. -/
theorem run_value : θ_run defs (onTc (τ := τ) (main (F := F))) ⟨m, fun _ => 0, ρ⟩ fun r => ∀ c : Dev nD,
    r.2.mem ((c.tc : Thread nD τ).loc main_v49)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h.1 c).2 main_v49 (Pipeline.mem_restRefs_of main_v49 (by decide) (by decide))).trans (tail_eq m c),
        ((h.1 c).2 main_arg0 (Pipeline.mem_restRefs_of main_arg0 (by decide) (by decide))).trans (W_main_arg0 m (dats m) c),
        ((h.1 c).2 main_arg1 (Pipeline.mem_restRefs_of main_arg1 (by decide) (by decide))).trans (W_main_arg1 m (dats m) c)⟩)
    (run_main m ρ)

/-- Where the precondition holds the kernel's result is the reference's. -/
theorem result_eq (v : S2x128x128x128x4.Idx → EReal) (x : S2x128x128x128x3.Idx → EReal)
    (h : Cert.Pre_in_cube.fn (F := Ideal) v x = fun _ => 1#1) :
    result (F := Ideal) v x = Cert.ReferenceIdeal.Blend.result (F := Ideal) v x := by
  funext i
  obtain ⟨n, d, g, w, c, rfl⟩ : ∃ (n : Fin 2) (d g w : Fin 128) (c : Fin 4), i = ValueIdx.ix5 n d g w c :=
    ⟨i 0, i 1, i 2, i 3, i 4, ValueIdx.eq_ix5 i⟩
  obtain ⟨X, hX, hx⟩ := Cert.Pre_in_cube.Blend.coords_real v x h (ValueIdx.ix5 n d g w 0)
  obtain ⟨Y, hY, hy⟩ := Cert.Pre_in_cube.Blend.coords_real v x h (ValueIdx.ix5 n d g w 1)
  obtain ⟨Z, hZ, hz⟩ := Cert.Pre_in_cube.Blend.coords_real v x h (ValueIdx.ix5 n d g w 2)
  have hk : (fun r : ℕ => table (F := Ideal) v (ValueIdx.ix3 n (Fin.ofNat 8 r) c))
      = fun r => Cert.Equation.coefficient (Cert.Interp.corner v n c) (r % 8) := funext fun r => table_at v n _ c
  let j : Fin 256 := ⟨n.val * 128 + d.val, by omega⟩
  let R : Fin 131072 := ⟨((n.val * 128 + d.val) * 128 + g.val) * 4 + c.val, by omega⟩
  have px : planes (F := Ideal) x (ValueIdx.ix4 j 0 g w) = X := (planes_at (F := Ideal) x n d g w 0 j rfl).trans hx
  have py : planes (F := Ideal) x (ValueIdx.ix4 j 1 g w) = Y := (planes_at (F := Ideal) x n d g w 1 j rfl).trans hy
  have pz : planes (F := Ideal) x (ValueIdx.ix4 j 2 g w) = Z := (planes_at (F := Ideal) x n d g w 2 j rfl).trans hz
  have hp : Cert.Blend.poly (F := Ideal) (fun r : ℕ => Cert.Equation.coefficient (Cert.Interp.corner v n c) (r % 8)) (X : EReal) (Y : EReal) (Z : EReal)
      = Cert.Blend.poly (F := Ideal) (Cert.Equation.coefficient (Cert.Interp.corner v n c)) (X : EReal) (Y : EReal) (Z : EReal) := rfl
  unfold result Cert.ReferenceIdeal.Blend.result
  rw [back_at _ n d g w c R rfl, outArr_at _ _ n d g w c R rfl j rfl, px, py, pz, hk]
  refine hp.trans ((Cert.Equation.poly_eq_blend (Cert.Interp.corner v n c)
    (fun p q r => Cert.Pre_in_cube.Blend.corner_real v x h n c p q r) X Y Z).trans ?_)
  exact (Cert.Interp.trilinear_at v _ _ _ n d g w c X Y Z hX hY hZ ((Cert.Interp.component_at n d g w 0 x).trans hx)
    ((Cert.Interp.component_at n d g w 1 x).trans hy) ((Cert.Interp.component_at n d g w 2 x).trans hz)).symm

end Cert.KernelIdeal.Blend

end
-- ==== Proof.lean ====
/- The certificate: the frames of the three programs from their runs, and the value claim from the kernel's result and
   the reference's, which are one function of the arguments where the precondition holds (K/KernelValue.lean). -/
module

public import proofs.«01_k».proof.Defs
public import proofs.«01_k».proof.Proof.Gen.Pre_in_cube
public import proofs.«01_k».proof.Proof.K.RunKernel
public import proofs.«01_k».proof.Proof.K.RunKernelIdeal
public import proofs.«01_k».proof.Proof.K.RunReference
public import proofs.«01_k».proof.Proof.K.KernelValue
public import Idealize.ShloMosaic.Adequacy
public import Idealize.ShloMosaic.Init

@[expose] public section

noncomputable section

namespace Cert.Proof

open Idealize.ShloMosaic Idealize.SL.Sem Cert.Kernel

/-- The value claim: both programs end with the reference's result of the arguments. -/
theorem value : Cert.algebraic_KernelIdeal_ReferenceIdeal_pre_in_cube := by
  intro m g m' g' hpre hagree
  refine ⟨fun c => Cert.KernelIdeal.Blend.result (F := Ideal) (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · exact Cert.KernelIdeal.Blend.run_value m g
  · refine (θ_run _ _ _).mono (fun r h c => ⟨(h c).1.trans ?_, (h c).2⟩) (Cert.ReferenceIdeal.Blend.run_main m' g')
    rw [(hagree c).1, (hagree c).2]
    exact (Cert.KernelIdeal.Blend.result_eq _ _ (hpre c)).symm

/-- All the claims. -/
theorem claim : Cert.Claim :=
  ⟨Cert.Kernel.Gen.facts, Cert.KernelIdeal.Gen.facts, Cert.ReferenceIdeal.Gen.facts, Cert.Pre_in_cube.Gen.facts,
    fun m g _ => Cert.Kernel.Blend.quiescent m g,
    fun m g _ => Cert.KernelIdeal.Blend.quiescent m g,
    fun m g _ => Cert.KernelIdeal.Blend.quiescent m g,
    fun m g _ => Cert.ReferenceIdeal.Blend.quiescent m g,
    fun m g _ => Cert.ReferenceIdeal.Blend.quiescent m g,
    trivial,
    value⟩

end Cert.Proof

end
